-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨3, ![4, 256, 1024]⟩ ⟨3, ![4, 512, 1024]⟩ (Layout.meshBlock [2, 2] ![[], [0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨3, ![4, 256, 1024]⟩ ⟨3, ![4, 512, 1024]⟩ (Layout.meshBlock [2, 2] ![[], [0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 256, 1024]⟩ ⟨3, ![4, 512, 1024]⟩ (Layout.meshBlock [2, 2] ![[], [0], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![4, 256, 1024]⟩ ⟨3, ![4, 512, 1024]⟩ (Layout.meshBlock [2, 2] ![[], [0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S4x256x1024 : Shape := ⟨3, ![4, 256, 1024]⟩
abbrev S_ : Shape := ⟨0, ![]⟩

class Facts : Prop where
  bitsLt_bf16_f32 : FTy.bits .bf16 < FTy.bits .f32
  bcast_S_S4x256x1024 : S_.BroadcastsInDim S4x256x1024 (![] : Fin 0 → Fin S4x256x1024.rank)

variable [Facts]

def fn {F : FTy → Type} [FloatOps F] (main_arg0 : FVec F S4x256x1024 .bf16) (main_arg1 : FVec F S4x256x1024 .bf16) (main_arg2 : FVec F S4x256x1024 .bf16) : IVec S4x256x1024 1 :=
  let main_v0 : FVec F S4x256x1024 .f32 := (extf .f32 · bitsLt_bf16_f32) main_arg0
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_v4 : FVec F S4x256x1024 .f32 := (extf .f32 · bitsLt_bf16_f32) main_arg1
  let main_v5 : FVec F S4x256x1024 .f32 := Host.absf main_v4
  let main_cst_0 : FVec F S_ .f32 := constant S_ .f32 0x7F800000#32
  let main_v6 : FVec F S4x256x1024 .f32 := broadcastInDim S4x256x1024 ![] bcast_S_S4x256x1024 main_cst_0
  let main_v7 : IVec S4x256x1024 1 := cmpf .olt main_v5 main_v6
  let main_v8 : IVec S4x256x1024 1 := andi main_v3 main_v7
  main_v8
-- ==== Pre_finite_ReferenceIdeal.lean ====
abbrev S4x512x1024 : Shape := ⟨3, ![4, 512, 1024]⟩
abbrev S_ : Shape := ⟨0, ![]⟩

class Facts : Prop where
  bitsLt_bf16_f32 : FTy.bits .bf16 < FTy.bits .f32
  bcast_S_S4x512x1024 : S_.BroadcastsInDim S4x512x1024 (![] : Fin 0 → Fin S4x512x1024.rank)

variable [Facts]

def fn {F : FTy → Type} [FloatOps F] (main_arg0 : FVec F S4x512x1024 .bf16) (main_arg1 : FVec F S4x512x1024 .bf16) (main_arg2 : FVec F S4x512x1024 .bf16) : IVec S4x512x1024 1 :=
  let main_v0 : FVec F S4x512x1024 .f32 := (extf .f32 · bitsLt_bf16_f32) main_arg0
  let main_v1 : FVec F S4x512x1024 .f32 := Host.absf main_v0
  let main_cst : FVec F S_ .f32 := constant S_ .f32 0x7F800000#32
  let main_v2 : FVec F S4x512x1024 .f32 := broadcastInDim S4x512x1024 ![] bcast_S_S4x512x1024 main_cst
  let main_v3 : IVec S4x512x1024 1 := cmpf .olt main_v1 main_v2
  let main_v4 : FVec F S4x512x1024 .f32 := (extf .f32 · bitsLt_bf16_f32) main_arg1
  let main_v5 : FVec F S4x512x1024 .f32 := Host.absf main_v4
  let main_cst_0 : FVec F S_ .f32 := constant S_ .f32 0x7F800000#32
  let main_v6 : FVec F S4x512x1024 .f32 := broadcastInDim S4x512x1024 ![] bcast_S_S4x512x1024 main_cst_0
  let main_v7 : IVec S4x512x1024 1 := cmpf .olt main_v5 main_v6
  let main_v8 : IVec S4x512x1024 1 := andi main_v3 main_v7
  main_v8
-- ==== Kernel.lean ====
abbrev S4x256x1024 : Shape := ⟨3, ![4, 256, 1024]⟩
abbrev S8 : Shape := ⟨1, ![8]⟩
abbrev S_ : Shape := ⟨0, ![]⟩
abbrev S1x256x1024 : Shape := ⟨3, ![1, 256, 1024]⟩
abbrev S256x1024 : Shape := ⟨2, ![256, 1024]⟩
abbrev S1 : Shape := ⟨1, ![1]⟩
abbrev S1x256x512 : Shape := ⟨3, ![1, 256, 512]⟩
abbrev S256x512 : Shape := ⟨2, ![256, 512]⟩
abbrev S1x256x64 : Shape := ⟨3, ![1, 256, 64]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .bf16⟩
  | .hbm, ⟨2, _⟩ => ⟨S4x256x1024, .bf16⟩
  | .hbm, ⟨3, _⟩ => ⟨S4x256x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S4x256x1024, .bf16⟩
  | .local _ .vmem, ⟨3, _⟩ => ⟨S4x256x1024, .f32⟩
  | .local _ .vmem, ⟨4, _⟩ => ⟨S4x256x1024, .bf16⟩
  | .local _ .vmem, ⟨5, _⟩ => ⟨S4x256x1024, .bf16⟩
  | .local _ .vmem, ⟨6, _⟩ => ⟨S4x256x1024, .bf16⟩
  | .local _ .vmem, ⟨7, _⟩ => ⟨S4x256x1024, .bf16⟩
  | _, _ => ⟨S4x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_off1 (d0 : Dev nD) : Fin 3 → Nat :=
  let c0_i32_18 : BitVec 32 := 0#32
  let c0_i32_24 : BitVec 32 := 0#32
  let c512_i32 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.muli c512_i32 v5
  ![0, 0, v8.toNat]
def k0_dev3 (d0 : Dev nD) : Nat :=
  let c0_i32_22 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_21 : BitVec 32 := 2#32
  let v23 : BitVec 32 := Scalar.muli v6 c2_i32_21
  let v24 : BitVec 32 := Scalar.addi c0_i32_22 v23
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_23 : BitVec 32 := 1#32
  let v25 : BitVec 32 := Scalar.muli v5 c1_i32_23
  let v26 : BitVec 32 := Scalar.addi v24 v25
  v26.toNat
def k0_dev4 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v40 : BitVec 32 := Scalar.muli v6 c2_i32_36
  let v41 : BitVec 32 := Scalar.addi c0_i32_37 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v42 : BitVec 32 := Scalar.muli v5 c1_i32_38
  let v43 : BitVec 32 := Scalar.addi v41 v42
  v43.toNat
def k0_off2 (d0 : Dev nD) : Fin 3 → Nat :=
  let c1_i32_47 : BitVec 32 := 1#32
  let c0_i32_53 : BitVec 32 := 0#32
  let c512_i32 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.muli c512_i32 v5
  ![1, 0, v8.toNat]
def k0_dev5 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v57 : BitVec 32 := Scalar.muli v6 c2_i32_50
  let v58 : BitVec 32 := Scalar.addi c0_i32_51 v57
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v59 : BitVec 32 := Scalar.muli v5 c1_i32_52
  let v60 : BitVec 32 := Scalar.addi v58 v59
  v60.toNat
def k0_dev6 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v74 : BitVec 32 := Scalar.muli v6 c2_i32_64
  let v75 : BitVec 32 := Scalar.addi c0_i32_65 v74
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v76 : BitVec 32 := Scalar.muli v5 c1_i32_66
  let v77 : BitVec 32 := Scalar.addi v75 v76
  v77.toNat
def k0_off3 (d0 : Dev nD) : Fin 3 → Nat :=
  let c2_i32_75 : BitVec 32 := 2#32
  let c0_i32_80 : BitVec 32 := 0#32
  let c512_i32 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.muli c512_i32 v5
  ![2, 0, v8.toNat]
def k0_dev7 (d0 : Dev nD) : Nat :=
  let c0_i32_78 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_77 : BitVec 32 := 2#32
  let v91 : BitVec 32 := Scalar.muli v6 c2_i32_77
  let v92 : BitVec 32 := Scalar.addi c0_i32_78 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_79 : BitVec 32 := 1#32
  let v93 : BitVec 32 := Scalar.muli v5 c1_i32_79
  let v94 : BitVec 32 := Scalar.addi v92 v93
  v94.toNat
def k0_dev8 (d0 : Dev nD) : Nat :=
  let c0_i32_92 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_91 : BitVec 32 := 2#32
  let v108 : BitVec 32 := Scalar.muli v6 c2_i32_91
  let v109 : BitVec 32 := Scalar.addi c0_i32_92 v108
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v110 : BitVec 32 := Scalar.muli v5 c1_i32_93
  let v111 : BitVec 32 := Scalar.addi v109 v110
  v111.toNat
def k0_off4 (d0 : Dev nD) : Fin 3 → Nat :=
  let c3_i32_102 : BitVec 32 := 3#32
  let c0_i32_107 : BitVec 32 := 0#32
  let c512_i32 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.muli c512_i32 v5
  ![3, 0, v8.toNat]
def k0_dev9 (d0 : Dev nD) : Nat :=
  let c0_i32_105 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_104 : BitVec 32 := 2#32
  let v125 : BitVec 32 := Scalar.muli v6 c2_i32_104
  let v126 : BitVec 32 := Scalar.addi c0_i32_105 v125
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v127 : BitVec 32 := Scalar.muli v5 c1_i32_106
  let v128 : BitVec 32 := Scalar.addi v126 v127
  v128.toNat
def k0_dev10 (d0 : Dev nD) : Nat :=
  let c0_i32_119 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_118 : BitVec 32 := 2#32
  let v142 : BitVec 32 := Scalar.muli v6 c2_i32_118
  let v143 : BitVec 32 := Scalar.addi c0_i32_119 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_120 : BitVec 32 := 1#32
  let v144 : BitVec 32 := Scalar.muli v5 c1_i32_120
  let v145 : BitVec 32 := Scalar.addi v143 v144
  v145.toNat
def k0_dev11 (d0 : Dev nD) : Nat :=
  let c0_i32_137 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_136 : BitVec 32 := 2#32
  let v164 : BitVec 32 := Scalar.muli v2 c2_i32_136
  let v165 : BitVec 32 := Scalar.addi c0_i32_137 v164
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_138 : BitVec 32 := 1#32
  let v166 : BitVec 32 := Scalar.muli v7 c1_i32_138
  let v167 : BitVec 32 := Scalar.addi v165 v166
  v167.toNat
def k0_dev12 (d0 : Dev nD) : Nat :=
  let c0_i32_155 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_154 : BitVec 32 := 2#32
  let v186 : BitVec 32 := Scalar.muli v2 c2_i32_154
  let v187 : BitVec 32 := Scalar.addi c0_i32_155 v186
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_156 : BitVec 32 := 1#32
  let v188 : BitVec 32 := Scalar.muli v7 c1_i32_156
  let v189 : BitVec 32 := Scalar.addi v187 v188
  v189.toNat
def k0_dev13 (d0 : Dev nD) : Nat :=
  let c0_i32_575 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_574 : BitVec 32 := 2#32
  let v724 : BitVec 32 := Scalar.muli v2 c2_i32_574
  let v725 : BitVec 32 := Scalar.addi c0_i32_575 v724
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_576 : BitVec 32 := 1#32
  let v726 : BitVec 32 := Scalar.muli v7 c1_i32_576
  let v727 : BitVec 32 := Scalar.addi v725 v726
  v727.toNat
def k0_dev14 (d0 : Dev nD) : Nat :=
  let c0_i32_593 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_592 : BitVec 32 := 2#32
  let v746 : BitVec 32 := Scalar.muli v2 c2_i32_592
  let v747 : BitVec 32 := Scalar.addi c0_i32_593 v746
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_594 : BitVec 32 := 1#32
  let v748 : BitVec 32 := Scalar.muli v7 c1_i32_594
  let v749 : BitVec 32 := Scalar.addi v747 v748
  v749.toNat
def k0_dev15 (d0 : Dev nD) : Nat :=
  let c0_i32_1029 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1028 : BitVec 32 := 2#32
  let v1284 : BitVec 32 := Scalar.muli v2 c2_i32_1028
  let v1285 : BitVec 32 := Scalar.addi c0_i32_1029 v1284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1030 : BitVec 32 := 1#32
  let v1286 : BitVec 32 := Scalar.muli v7 c1_i32_1030
  let v1287 : BitVec 32 := Scalar.addi v1285 v1286
  v1287.toNat
def k0_dev16 (d0 : Dev nD) : Nat :=
  let c0_i32_1047 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1046 : BitVec 32 := 2#32
  let v1306 : BitVec 32 := Scalar.muli v2 c2_i32_1046
  let v1307 : BitVec 32 := Scalar.addi c0_i32_1047 v1306
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1048 : BitVec 32 := 1#32
  let v1308 : BitVec 32 := Scalar.muli v7 c1_i32_1048
  let v1309 : BitVec 32 := Scalar.addi v1307 v1308
  v1309.toNat
def k0_dev17 (d0 : Dev nD) : Nat :=
  let c0_i32_1483 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1482 : BitVec 32 := 2#32
  let v1844 : BitVec 32 := Scalar.muli v2 c2_i32_1482
  let v1845 : BitVec 32 := Scalar.addi c0_i32_1483 v1844
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1484 : BitVec 32 := 1#32
  let v1846 : BitVec 32 := Scalar.muli v7 c1_i32_1484
  let v1847 : BitVec 32 := Scalar.addi v1845 v1846
  v1847.toNat
def k0_dev18 (d0 : Dev nD) : Nat :=
  let c0_i32_1501 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1500 : BitVec 32 := 2#32
  let v1866 : BitVec 32 := Scalar.muli v2 c2_i32_1500
  let v1867 : BitVec 32 := Scalar.addi c0_i32_1501 v1866
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1502 : BitVec 32 := 1#32
  let v1868 : BitVec 32 := Scalar.muli v7 c1_i32_1502
  let v1869 : BitVec 32 := Scalar.addi v1867 v1868
  v1869.toNat
abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x1024 : Shape := ⟨3, ![4, 512, 1024]⟩
abbrev S4x512x16x64 : Shape := ⟨4, ![4, 512, 16, 64]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x64x512 : Shape := ⟨4, ![4, 16, 64, 512]⟩

abbrev nBuf : Space → Nat
  | .hbm => 27
  | .vmem => 0
  | .smem => 0
  | _ => 0

abbrev bufTy : (tb : Table) → Fin (tcTables nBuf tb) → BufTy
  | .hbm, ⟨0, _⟩ => ⟨S4x512x1024, .bf16⟩
  | .hbm, ⟨1, _⟩ => ⟨S4x512x1024, .bf16⟩
  | .hbm, ⟨2, _⟩ => ⟨S4x512x1024, .bf16⟩
  | .hbm, ⟨3, _⟩ => ⟨S4x512x16x64, .bf16⟩
  | .hbm, ⟨4, _⟩ => ⟨S4x512x16x64, .f32⟩
  | .hbm, ⟨5, _⟩ => ⟨S4x512x16x64, .bf16⟩
  | .hbm, ⟨6, _⟩ => ⟨S4x512x16x64, .f32⟩
  | .hbm, ⟨7, _⟩ => ⟨S4x512x16x64, .bf16⟩
  | .hbm, ⟨8, _⟩ => ⟨S4x512x16x64, .f32⟩
  | .hbm, ⟨9, _⟩ => ⟨S4x16x512x512, .f32⟩
  | .hbm, ⟨10, _⟩ => ⟨S_, .f32⟩
  | .hbm, ⟨11, _⟩ => ⟨S4x16x512x512, .f32⟩
  | .hbm, ⟨12, _⟩ => ⟨S4x16x512x512, .f32⟩
  | .hbm, ⟨13, _⟩ => ⟨S_, .f32⟩
  | .hbm, ⟨14, _⟩ => ⟨S4x16x512, .f32⟩
  | .hbm, ⟨15, _⟩ => ⟨S4x16x512x1, .f32⟩
  | .hbm, ⟨16, _⟩ => ⟨S4x16x512x512, .f32⟩
  | .hbm, ⟨17, _⟩ => ⟨S4x16x512x512, .f32⟩
  | .hbm, ⟨18, _⟩ => ⟨S4x16x512x512, .f32⟩
  | .hbm, ⟨19, _⟩ => ⟨S_, .f32⟩
  | .hbm, ⟨20, _⟩ => ⟨S4x16x512, .f32⟩
  | .hbm, ⟨21, _⟩ => ⟨S4x16x512x1, .f32⟩
  | .hbm, ⟨22, _⟩ => ⟨S4x16x512x512, .f32⟩
  | .hbm, ⟨23, _⟩ => ⟨S4x16x512x512, .f32⟩
  | .hbm, ⟨24, _⟩ => ⟨S4x16x64x512, .f32⟩
  | .hbm, ⟨25, _⟩ => ⟨S4x512x16x64, .f32⟩
  | .hbm, ⟨26, _⟩ => ⟨S4x512x1024, .f32⟩
  | _, _ => ⟨S4x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Windows.lean ====
/-
# The mesh, the buffers and their windows

Four devices in a two by two mesh: device `c` has the coordinates `x = c / 2`, `y = c % 2`. It exchanges
with its `partner` (the other `x`) and with its `peer` (the other `y`). Each device holds the keys and
values of its `x`; the two scratch buffers it sends from hold its own keys and values, the two it receives
into end up with its partner's: the column half `y` straight from the partner, the other half through the
peer, which has it from ITS partner.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The memory algebra: the pipeline library's copy of the rounds and this exchange's own, its duties named by `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

set_option backward.proofsInPublic true in
/-- The device at the other `x`. -/
def partner (c : Dev nD) : Dev nD := ⟨(c.val + 2) % 4, Nat.mod_lt _ (by decide)⟩
set_option backward.proofsInPublic true in
/-- The device at the other `y`. -/
def peer (c : Dev nD) : Dev nD := ⟨((2 * (c.val / 2) + 1) - c.val % 2) % 4, Nat.mod_lt _ (by decide)⟩

theorem partner_partner (c : Dev nD) : partner (partner c) = c := by revert c; decide
theorem peer_peer (c : Dev nD) : peer (peer c) = c := by revert c; decide

/-- The `y` coordinate: which column half of the received blocks comes straight from the partner. -/
abbrev yof (c : Dev nD) : ℕ := c.val % 2

theorem yof_lt (c : Dev nD) : yof c < 2 := Nat.mod_lt _ (by decide)
theorem yof_partner (c : Dev nD) : yof (partner c) = yof c := by revert c; decide
theorem yof_peer (c : Dev nD) : yof (peer c) = 1 - yof c := by revert c; decide

def partnerEquiv : Dev nD ≃ Dev nD := ⟨partner, partner, partner_partner, partner_partner⟩
def peerEquiv : Dev nD ≃ Dev nD := ⟨peer, peer, peer_peer, peer_peer⟩

theorem eq_partner (c n : Dev nD) (h : n.val = ((c.val % 2) + 2) - 2 * (c.val / 2)) : n = partner c := by
  apply Fin.ext; rw [h]; clear h n; revert c; decide
theorem eq_peer (c n : Dev nD) (h : n.val = (2 * (c.val / 2) + 1) - (c.val % 2)) : n = peer c := by
  apply Fin.ext; rw [h]; clear h n; revert c; decide

/-! ## The buffers -/

/-- The buffer a device sends its keys (`false`) or values (`true`) from, -/
abbrev sndM : Bool → Memref sig .tc .vmem S4x256x1024 .bf16
  | false => Memref.whole cc0_scratch0
  | true => Memref.whole cc0_scratch1
/-- and the one it receives its partner's in. -/
abbrev rcvM : Bool → Memref sig .tc .vmem S4x256x1024 .bf16
  | false => Memref.whole cc0_scratch2
  | true => Memref.whole cc0_scratch3

/-! ## Windows: batch rows, and their two column halves -/

/-- Batch `b`'s row of a block, -/
def rowSet (b : ℕ) : Finset S4x256x1024.Idx := Finset.univ.filter fun x => (x 0).val = b
/-- and the half `y` of its columns. -/
def winSet (b y : ℕ) : Finset S4x256x1024.Idx := Finset.univ.filter fun x => (x 0).val = b ∧ (x 2).val / 512 = y
/-- The half `y` of all columns. -/
def colSet (y : ℕ) : Finset S4x256x1024.Idx := Finset.univ.filter fun x => (x 2).val / 512 = y

theorem mem_rowSet {b : ℕ} {x : S4x256x1024.Idx} : x ∈ rowSet b ↔ (x 0).val = b := by simp [rowSet]
theorem mem_winSet {b y : ℕ} {x : S4x256x1024.Idx} : x ∈ winSet b y ↔ (x 0).val = b ∧ (x 2).val / 512 = y := by simp [winSet]
theorem mem_colSet {y : ℕ} {x : S4x256x1024.Idx} : x ∈ colSet y ↔ (x 2).val / 512 = y := by simp [colSet]

theorem winSet_subset (b y : ℕ) : winSet b y ⊆ rowSet b := fun x hx => mem_rowSet.2 (mem_winSet.1 hx).1

theorem lt_axis0 (x : S4x256x1024.Idx) : (x 0).val < 4 := (x 0).isLt
theorem lt_axis1 (x : S4x256x1024.Idx) : (x 1).val < 256 := (x 1).isLt
theorem lt_axis2 (x : S4x256x1024.Idx) : (x 2).val < 1024 := (x 2).isLt

theorem winSet_union (b : ℕ) (y : ℕ) (hy : y < 2) : winSet b y ∪ winSet b (1 - y) = rowSet b := by
  ext x
  have := lt_axis2 x
  rw [Finset.mem_union, mem_winSet, mem_winSet, mem_rowSet]
  omega
theorem winSet_disjoint (b y : ℕ) (hy : y < 2) : Disjoint (winSet b y) (winSet b (1 - y)) :=
  Finset.disjoint_left.mpr fun x h h' => by rw [mem_winSet] at h h'; omega
theorem colSet_union (y : ℕ) (hy : y < 2) : colSet y ∪ colSet (1 - y) = Finset.univ := by
  ext x
  have := lt_axis2 x
  rw [Finset.mem_union, mem_colSet, mem_colSet]
  simp only [Finset.mem_univ, iff_true]
  omega
theorem colSet_disjoint (y : ℕ) (hy : y < 2) : Disjoint (colSet y) (colSet (1 - y)) :=
  Finset.disjoint_left.mpr fun x h h' => by rw [mem_colSet] at h h'; omega

/-- A column half is its four batches' windows, -/
theorem colSet_biUnion (y : ℕ) : colSet y = (Finset.univ : Finset (Fin 4)).biUnion fun b => winSet b.val y := by
  ext x
  simp only [mem_colSet, Finset.mem_biUnion, Finset.mem_univ, true_and, mem_winSet]
  exact ⟨fun h => ⟨⟨(x 0).val, lt_axis0 x⟩, rfl, h⟩, fun ⟨_, _, h⟩ => h⟩
theorem winSet_disjoint_of_ne (y : ℕ) (b b' : Fin 4) (h : b ≠ b') : Disjoint (winSet b.val y) (winSet b'.val y) :=
  Finset.disjoint_left.mpr fun x h1 h2 => by
    rw [mem_winSet] at h1 h2; exact h (Fin.ext (h1.1.symm.trans h2.1))
/-- and a block its four rows. -/
theorem univ_biUnion : (Finset.univ : Finset S4x256x1024.Idx) = (Finset.univ : Finset (Fin 4)).biUnion fun b => rowSet b.val := by
  ext x
  simp only [Finset.mem_biUnion, Finset.mem_univ, true_and, mem_rowSet, true_iff]
  exact ⟨⟨(x 0).val, lt_axis0 x⟩, rfl⟩
theorem rowSet_disjoint_of_ne (b b' : Fin 4) (h : b ≠ b') : Disjoint (rowSet b.val) (rowSet b'.val) :=
  Finset.disjoint_left.mpr fun x h1 h2 => by
    rw [mem_rowSet] at h1 h2; exact h (Fin.ext (h1.symm.trans h2))

/-- The rectangle a transfer moves, -/
theorem unit_win {off : Fin 3 → ℕ} {inb} {b y : ℕ} (h : off = ![b, 0, 512 * y]) :
    (Rect.unit (s := S4x256x1024) off S1x256x512.size inb).set = winSet b y := by
  subst h
  ext x
  have := lt_axis1 x
  rw [Rect.mem_set_unit, mem_winSet, Fin.forall_fin_succ, Fin.forall_fin_succ, Fin.forall_fin_one]
  show (b ≤ (x 0).val ∧ (x 0).val < b + 1) ∧ (0 ≤ (x 1).val ∧ (x 1).val < 0 + 256) ∧ (512 * y ≤ (x 2).val ∧ (x 2).val < 512 * y + 512) ↔ _
  omega
/-- and the one a store of a whole row goes through. -/
theorem unit_row {off : Fin 3 → ℕ} {inb} {b : ℕ} (h : off = ![b, 0, 0]) :
    (Rect.unit (s := S4x256x1024) off S1x256x1024.size inb).set = rowSet b := by
  subst h
  ext x
  have := lt_axis1 x; have := lt_axis2 x
  rw [Rect.mem_set_unit, mem_rowSet, Fin.forall_fin_succ, Fin.forall_fin_succ, Fin.forall_fin_one]
  show (b ≤ (x 0).val ∧ (x 0).val < b + 1) ∧ (0 ≤ (x 1).val ∧ (x 1).val < 0 + 256) ∧ (0 ≤ (x 2).val ∧ (x 2).val < 0 + 1024) ↔ _
  omega

section Win
variable (M : Memref sig .tc .vmem S4x256x1024 .bf16) {off : Fin 3 → ℕ} (inb : ∀ a, off a + S1x256x512.size a ≤ S4x256x1024.size a)

/-- The window of a buffer at the offsets `off`, as the kernel names a transfer's end. -/
abbrev winM : Memref sig .tc .vmem S256x512 .bf16 :=
  (M.slice (Rect.unit (s := S4x256x1024) off S1x256x512.size inb) (fun _ => rfl)).squeeze S256x512 squeezes_S1x256x512_S256x512

theorem winM_set {b y : ℕ} (h : off = ![b, 0, 512 * y]) : (winM M inb).view.set = M.view.setOn (winSet b y) := by
  rw [← unit_win (inb := inb) h]
  show ((M.view.slice _).reshape _ _).set = _
  rw [View.set_reshape, View.set_slice]
  rfl

end Win

/-! ## Contents -/

/-- A block as the contents of a sending buffer, -/
def sndB (c : Dev nD) : (t : Bool) → Vec F S4x256x1024 .bf16 → Buf (Elt F) ((sndM t).view.loc (c : Thread nD τ))
  | false, f => f
  | true, f => f
/-- of a receiving one. -/
def rcvB (c : Dev nD) : (t : Bool) → Vec F S4x256x1024 .bf16 → Buf (Elt F) ((rcvM t).view.loc (c : Thread nD τ))
  | false, f => f
  | true, f => f

omit [FloatOps F] in
theorem rcvB_congr (c : Dev nD) (t : Bool) (S : Finset S4x256x1024.Idx) (f g : Vec F S4x256x1024 .bf16) (h : ∀ x ∈ S, f x = g x) :
    ∀ i ∈ (rcvM t).view.setOn S, rcvB c t f i = rcvB c t g i := by
  intro i hi
  obtain ⟨x, hx, rfl⟩ := Finset.mem_map.1 hi
  cases t <;> exact h x hx

omit [FloatOps F] in
/-- A transfer from a window of a sending buffer to the same window of the receiving one carries the elements there; -/
theorem copy_snd (c c' : Dev nD) (t : Bool) {off : Fin 3 → ℕ} (inb : ∀ a, off a + S1x256x512.size a ≤ S4x256x1024.size a)
    (fd : Buf (Elt F) ((rcvM t).view.loc (c' : Thread nD τ))) (f : Vec F S4x256x1024 .bf16) :
    ∀ i ∈ (winM (rcvM t) inb).view.set,
      (winM (rcvM t) inb).view.write (Elt F) fd ((winM (sndM t) inb).view.read (Elt F) (sndB c t f)) Finset.univ i = rcvB c' t f i := by
  intro i hi
  obtain ⟨x, hx, rfl⟩ := Finset.mem_map.1 hi
  rw [View.write_emb_of_mem _ _ (Finset.mem_univ _)]
  cases t <;> rfl
omit [FloatOps F] in
/-- from a receiving buffer to the next one's, likewise. -/
theorem copy_rcv (c c' : Dev nD) (t : Bool) {off : Fin 3 → ℕ} (inb : ∀ a, off a + S1x256x512.size a ≤ S4x256x1024.size a)
    (fd : Buf (Elt F) ((rcvM t).view.loc (c' : Thread nD τ))) (f : Vec F S4x256x1024 .bf16) :
    ∀ i ∈ (winM (rcvM t) inb).view.set,
      (winM (rcvM t) inb).view.write (Elt F) fd ((winM (rcvM t) inb).view.read (Elt F) (rcvB c t f)) Finset.univ i = rcvB c' t f i := by
  intro i hi
  obtain ⟨x, hx, rfl⟩ := Finset.mem_map.1 hi
  rw [View.write_emb_of_mem _ _ (Finset.mem_univ _)]
  cases t <;> rfl

/-- What device `c` ends up having received, from every device's block `X`: the half `y` of its partner's, the other
    half as its peer's partner sent it. -/
def rcvX (X : Dev nD → Vec F S4x256x1024 .bf16) (c : Dev nD) : Vec F S4x256x1024 .bf16 :=
  fun x => if (x 2).val / 512 = yof c then X (partner c) x else X (partner (peer c)) x

omit [FloatOps F] in
theorem rcvX_own (X : Dev nD → Vec F S4x256x1024 .bf16) (c : Dev nD) (b : ℕ) : ∀ x ∈ winSet b (yof c), rcvX X c x = X (partner c) x :=
  fun x hx => if_pos (mem_winSet.1 hx).2
omit [FloatOps F] in
theorem rcvX_other (X : Dev nD → Vec F S4x256x1024 .bf16) (c : Dev nD) (b : ℕ) : ∀ x ∈ winSet b (1 - yof c), rcvX X c x = X (partner (peer c)) x :=
  fun x hx => if_neg (by have := (mem_winSet.1 hx).2; have := yof_lt c; omega)

end Cert.Exchange

end
-- ==== Proof.Schedule.lean ====
/-
# The exchange's schedule of signals

The barrier cell of a device has two duties, one unit each: its partner's signal hands it the partner's
receiving windows of the device's own column half, its peer's signal the peer's windows of that half.
Every transfer has a cell at its source (the send semaphore: the lent share of the window comes back) and
one at its target (the receive semaphore: the window comes back filled).
-/
module

public import proofs.«01_k».proof.Proof.Windows

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells -/

/-- The runtime's barrier semaphore. -/
abbrev barS : Sem sig := (SemArray.scalar (sig.barrier 0 rfl) : Sems sig S_).sem

/-- The four families of transfer semaphores: to the partner at the source (0) and at the target (1), to the peer at the
    source (2) and at the target (3); eight each, one per batch and per keys or values. -/
def fsem (f : Fin 4) (i : Fin 8) : DmaSem sig := ⟨4 + 8 * f.val + i.val, by
  have := f.isLt; have := i.isLt; show _ < 36; omega⟩

theorem fsem_val (f : Fin 4) (i : Fin 8) : (fsem f i).val = 4 + 8 * f.val + i.val := rfl

theorem fsem_inj {f f' : Fin 4} {i i' : Fin 8} (h : fsem f i = fsem f' i') : f = f' ∧ i = i' := by
  have := congrArg Fin.val h
  rw [fsem_val, fsem_val] at this
  have := i.isLt; have := i'.isLt
  exact ⟨Fin.ext (by omega), Fin.ext (by omega)⟩

abbrev barCell (c : Dev nD) : GSem nD τ sig := ((c : Thread nD τ), .reg barS)
abbrev cell (c : Dev nD) (f : Fin 4) (i : Fin 8) : GSem nD τ sig := ((c : Thread nD τ), .dma (fsem f i))

theorem cell_inj {c c' : Dev nD} {f f' : Fin 4} {i i' : Fin 8} (h : cell c f i = cell c' f' i') : c = c' ∧ f = f' ∧ i = i' := by
  have h1 : c = c' := congrArg (fun g : GSem nD τ sig => g.1.1) h
  have h2 : fsem f i = fsem f' i' := SemLoc.dma.inj (congrArg Prod.snd h)
  exact ⟨h1, fsem_inj h2⟩

/-- Transfer `i` moves a window of batch `bi i`, of the keys or (`ti i`) the values. -/
def bi (i : Fin 8) : ℕ := i.val / 2
def ti (i : Fin 8) : Bool := decide (i.val % 2 = 1)

/-- What a transfer of one window adds to each cell it credits. -/
abbrev N : ℕ := (winM (rcvM false) (k0_off1_inb 0)).view.dmaCredit
theorem N_pos : 0 < N := View.dmaCredit_pos _ (by decide)

/-! ## The payloads -/

section Payloads

variable (X : Bool → Dev nD → Vec F S4x256x1024 .bf16)

/-- A window of a sending buffer, at a share of its block; -/
def sndWin (c : Dev nD) (i : Fin 8) (y : ℕ) (q : PosShare TreeShare) : sProp 𝕄 :=
  (sndM (ti i)).view.loc (c : Thread nD τ) ↦[(sndM (ti i)).view.setOn (winSet (bi i) y)]{q} sndB c (ti i) (X (ti i) c)
/-- of a receiving buffer, once filled; -/
def rcvWin (c : Dev nD) (i : Fin 8) (y : ℕ) (q : PosShare TreeShare) : sProp 𝕄 :=
  (rcvM (ti i)).view.loc (c : Thread nD τ) ↦[(rcvM (ti i)).view.setOn (winSet (bi i) y)]{q} rcvB c (ti i) (rcvX (X (ti i)) c)
/-- of a receiving buffer, before. -/
def landWin (c : Dev nD) (i : Fin 8) (y : ℕ) : sProp 𝕄 :=
  iprop(∃ f, (rcvM (ti i)).view.loc (c : Thread nD τ) ↦[(rcvM (ti i)).view.setOn (winSet (bi i) y)]{fullShare} f)

/-- What a barrier signal hands device `c`: from its partner (`false`) or peer (`true`), that device's receiving windows of
    `c`'s column half. -/
def barPay (c : Dev nD) (d : Bool) : sProp 𝕄 :=
  bigSep Finset.univ fun i : Fin 8 => landWin (F := F) (if d then peer c else partner c) i (yof c)

/-- What a transfer's two credits hand device `c`. -/
def xferPay (c : Dev nD) (f : Fin 4) (i : Fin 8) : sProp 𝕄 := match f with
  | 0 => sndWin X c i (yof c) fullShare.right
  | 1 => rcvWin X c i (yof c) fullShare
  | 2 => rcvWin X c i (yof c) fullShare.right
  | 3 => rcvWin X c i (1 - yof c) fullShare

omit [FloatOps F] in
instance landWin_storable (c : Dev nD) (i : Fin 8) (y : ℕ) : BI.Storable (upEmb : UEmb _ 𝕄) (landWin (F := F) c i y) := by
  unfold landWin; infer_instance
omit [FloatOps F] in
instance barPay_storable (c : Dev nD) (d : Bool) : BI.Storable (upEmb : UEmb _ 𝕄) (barPay (F := F) c d) := by
  unfold barPay; infer_instance
omit [FloatOps F] in
instance xferPay_storable (c : Dev nD) (f : Fin 4) (i : Fin 8) : BI.Storable (upEmb : UEmb _ 𝕄) (xferPay X c f i) := by
  unfold xferPay sndWin rcvWin; split <;> infer_instance

/-! ## The schedule -/

abbrev IsBar (g : GSem nD τ sig) : Prop := g.1.2 = .tc ∧ g.2 = .reg barS
abbrev IsXfer (g : GSem nD τ sig) : Prop := g.1.2 = .tc ∧ ∃ f i, g.2 = .dma (fsem f i)

/-- The family and the number of a transfer semaphore. -/
def famOf (q : DmaSem sig) : Fin 4 := ⟨(q.val - 4) / 8 % 4, Nat.mod_lt _ (by decide)⟩
def numOf (q : DmaSem sig) : Fin 8 := ⟨(q.val - 4) % 8, Nat.mod_lt _ (by decide)⟩
theorem famOf_fsem (f : Fin 4) (i : Fin 8) : famOf (fsem f i) = f := by
  apply Fin.ext; show (4 + 8 * f.val + i.val - 4) / 8 % 4 = f.val
  have := f.isLt; have := i.isLt; omega
theorem numOf_fsem (f : Fin 4) (i : Fin 8) : numOf (fsem f i) = i := by
  apply Fin.ext; show (4 + 8 * f.val + i.val - 4) % 8 = i.val
  have := f.isLt; have := i.isLt; omega

/-- One round, round 0: a barrier cell has the two duties of one unit each, a transfer's cell the duty `false` of the
    window's credit. -/
def exRd : Rounds.Schedule (GSem nD τ sig) Bool 𝕄 where
  duties g r := if r = 0 ∧ IsBar g then Finset.univ else if r = 0 ∧ IsXfer g then {false} else ∅
  unitless _ := False
  amount g _ _ := match g.2 with
    | .reg _ => 1
    | .dma _ => N
  payload g _ d := match g.2 with
    | .reg _ => barPay (F := F) g.1.1 d
    | .dma q => xferPay X g.1.1 (famOf q) (numOf q)
  amount_pos g _ _ _ := by
    split
    · exact Nat.one_pos
    · exact N_pos

instance exRd_payload_storable (g : GSem nD τ sig) (r : ℕ) (d : Bool) :
    BI.Storable (upEmb : UEmb _ 𝕄) ((exRd X).payload g r d) := by
  dsimp only [exRd]
  split <;> infer_instance

variable (c : Dev nD) (f : Fin 4) (i : Fin 8)

omit [FloatOps F] in
theorem duties_bar : (exRd X).duties (barCell c) 0 = Finset.univ := by dsimp only [exRd]; exact if_pos ⟨rfl, rfl, rfl⟩
omit [FloatOps F] in
theorem duties_cell : (exRd X).duties (cell c f i) 0 = {false} := by
  dsimp only [exRd]; rw [if_neg (fun h => by cases h.2.2)]; exact if_pos ⟨rfl, rfl, f, i, rfl⟩
omit [FloatOps F] in
theorem duties_later (g : GSem nD τ sig) : ∀ r, 1 ≤ r → (exRd X).duties g r = ∅ :=
  fun r hr => by dsimp only [exRd]; rw [if_neg fun h => by omega, if_neg fun h => by omega]
omit [FloatOps F] in
theorem amount_bar (d : Bool) : (exRd X).amount (barCell c) 0 d = 1 := rfl
omit [FloatOps F] in
theorem amount_cell (d : Bool) : (exRd X).amount (cell c f i) 0 d = N := rfl
omit [FloatOps F] in
theorem expect_bar : (exRd X).expect (barCell c) 0 = 2 := by
  unfold Schedule.expect Schedule.amountOf
  rw [duties_bar, Finset.sum_congr rfl fun d _ => amount_bar X c d, Finset.sum_const, Finset.card_univ, Fintype.card_bool, smul_eq_mul]
omit [FloatOps F] in
theorem expect_cell : (exRd X).expect (cell c f i) 0 = N := by
  unfold Schedule.expect Schedule.amountOf; rw [duties_cell, Finset.sum_singleton, amount_cell]
omit [FloatOps F] in
theorem payload_bar (d : Bool) : (exRd X).payload (barCell c) 0 d = barPay c d := rfl
omit [FloatOps F] in
theorem payload_cell (d : Bool) : (exRd X).payload (cell c f i) 0 d = xferPay X c f i := by
  dsimp only [exRd]; rw [famOf_fsem, numOf_fsem]
omit [FloatOps F] in
theorem rest_bar : bigSep ((exRd X).duties (barCell c) 0 \ ∅) (fun d => (exRd X).payload (barCell c) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
theorem rest_cell : bigSep ((exRd X).duties (cell c f i) 0 \ ∅) (fun d => (exRd X).payload (cell c f i) 0 d) = xferPay X c f i := by
  rw [Finset.sdiff_empty, duties_cell, bigSep_singleton, payload_cell]

end Payloads

/-! ## What each device owes, and the levels -/

/-- The credits still owed to the partner once the first `k` of the eight transfers to it have started; -/
def OX (c : Dev nD) (k : ℕ) : CellTallies nD τ sig Unit :=
  ∑ i ∈ Finset.univ.filter (fun i : Fin 8 => k ≤ i.val), tallyAt (cell (partner c) 1 i) () N
/-- to the peer. -/
def OY (c : Dev nD) (k : ℕ) : CellTallies nD τ sig Unit :=
  ∑ i ∈ Finset.univ.filter (fun i : Fin 8 => k ≤ i.val), tallyAt (cell (peer c) 3 i) () N

/-- At launch also a unit to either neighbour's barrier. -/
def O₁ (c : Dev nD) : CellTallies nD τ sig Unit := (OY c 0 + OX c 0) + tallyAt (barCell (peer c)) () 1
def O₀ (c : Dev nD) : CellTallies nD τ sig Unit := O₁ c + tallyAt (barCell (partner c)) () 1

theorem filter_peel {k : ℕ} (hk : k < 8) :
    (Finset.univ.filter fun i : Fin 8 => k ≤ i.val) = insert (⟨k, hk⟩ : Fin 8) (Finset.univ.filter fun i : Fin 8 => k + 1 ≤ i.val) := by
  ext i
  simp only [Finset.mem_filter, Finset.mem_univ, true_and, Finset.mem_insert, Fin.ext_iff]
  omega
theorem filter_peel_notMem {k : ℕ} (hk : k < 8) :
    (⟨k, hk⟩ : Fin 8) ∉ (Finset.univ.filter fun i : Fin 8 => k + 1 ≤ i.val) := by
  simp
theorem filter_none {k : ℕ} (hk : 8 ≤ k) : (Finset.univ.filter fun i : Fin 8 => k ≤ i.val) = ∅ := by
  ext i; have := i.isLt
  simp only [Finset.mem_filter, Finset.mem_univ, true_and, Finset.notMem_empty, iff_false]
  omega

theorem OX_peel (c : Dev nD) {k : ℕ} (hk : k < 8) : OX c k = OX c (k + 1) + tallyAt (cell (partner c) 1 ⟨k, hk⟩) () N := by
  unfold OX; rw [filter_peel hk, Finset.sum_insert (filter_peel_notMem hk), add_comm]
theorem OY_peel (c : Dev nD) {k : ℕ} (hk : k < 8) : OY c k = OY c (k + 1) + tallyAt (cell (peer c) 3 ⟨k, hk⟩) () N := by
  unfold OY; rw [filter_peel hk, Finset.sum_insert (filter_peel_notMem hk), add_comm]
theorem OX_none (c : Dev nD) : OX c 8 = 0 := by unfold OX; rw [filter_none le_rfl, Finset.sum_empty]
theorem OY_none (c : Dev nD) : OY c 8 = 0 := by unfold OY; rw [filter_none le_rfl, Finset.sum_empty]

theorem sum_tally_apply (S : Finset (Fin 8)) (gs : Fin 8 → GSem nD τ sig) (g : GSem nD τ sig) (u : Unit) :
    (∑ i ∈ S, (tallyAt (gs i) () N : CellTallies nD τ sig Unit)) g u = ∑ i ∈ S, if g = gs i ∧ u = () then N else 0 := by
  rw [Finset.sum_apply, Finsupp.finset_sum_apply]
  exact Finset.sum_congr rfl fun i _ => tallyAt_apply ..

theorem sum_tally_pos {S : Finset (Fin 8)} {gs : Fin 8 → GSem nD τ sig} {g : GSem nD τ sig} {u : Unit}
    (h : 0 < (∑ i ∈ S, (tallyAt (gs i) () N : CellTallies nD τ sig Unit)) g u) : ∃ i ∈ S, g = gs i := by
  rw [sum_tally_apply] at h
  obtain ⟨i, hi, hn⟩ := Finset.exists_ne_zero_of_sum_ne_zero h.ne'
  exact ⟨i, hi, by by_contra hg; exact hn (if_neg fun h' => hg h'.1)⟩

theorem OX_pos {c : Dev nD} {k : ℕ} {g : GSem nD τ sig} {u : Unit} (h : 0 < OX c k g u) : ∃ i : Fin 8, k ≤ i.val ∧ g = cell (partner c) 1 i := by
  obtain ⟨i, hi, hg⟩ := sum_tally_pos h
  exact ⟨i, (Finset.mem_filter.1 hi).2, hg⟩
theorem OY_pos {c : Dev nD} {k : ℕ} {g : GSem nD τ sig} {u : Unit} (h : 0 < OY c k g u) : ∃ i : Fin 8, k ≤ i.val ∧ g = cell (peer c) 3 i := by
  obtain ⟨i, hi, hg⟩ := sum_tally_pos h
  exact ⟨i, (Finset.mem_filter.1 hi).2, hg⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The staging and send cells are at 0, the barrier at 1, the partner's windows at 2, the peer's windows above, each batch
    above the one before. -/
def lv (g : GSem nD τ sig) (_ : Unit) : ℕ := match g.2 with
  | .reg _ => 1
  | .dma q => if 28 ≤ q.val then 3 + (q.val - 28) else if 12 ≤ q.val ∧ q.val < 20 then 2 else 0

theorem lv_cell1 (c : Dev nD) (i : Fin 8) : lv (cell c 1 i) () = 2 := by
  show (if 28 ≤ (fsem 1 i).val then _ else if 12 ≤ (fsem 1 i).val ∧ (fsem 1 i).val < 20 then 2 else 0) = 2
  have h : (fsem 1 i).val = 12 + i.val := rfl
  have := i.isLt
  rw [if_neg (by omega), if_pos (by omega)]
theorem lv_cell3 (c : Dev nD) (i : Fin 8) : lv (cell c 3 i) () = 3 + i.val := by
  show (if 28 ≤ (fsem 3 i).val then 3 + ((fsem 3 i).val - 28) else _) = _
  have h : (fsem 3 i).val = 28 + i.val := rfl
  rw [if_pos (by omega), h]; omega

omit [FloatOps F] in
/-- A cell may be waited on when everything owed lies above it. -/
theorem mayWait_of (c : Dev nD) (sm : SemLoc sig) (O : CellTallies nD τ sig Unit) (n : ℕ) (hsm : lv ((c : Thread nD τ), sm) () ≤ n)
    (hO : ∀ g u, 0 < O g u → g.1.2 = .tc ∧ n < lv g ()) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem OX_above {c : Dev nD} {k : ℕ} {g : GSem nD τ sig} {u : Unit} (h : 0 < OX c k g u) : g.1.2 = .tc ∧ 1 < lv g () := by
  obtain ⟨i, -, rfl⟩ := OX_pos h; exact ⟨rfl, by rw [lv_cell1]; decide⟩
theorem OY_above {c : Dev nD} {k n : ℕ} (hn : n < 3 + k) {g : GSem nD τ sig} {u : Unit} (h : 0 < OY c k g u) : g.1.2 = .tc ∧ n < lv g () := by
  obtain ⟨i, hi, rfl⟩ := OY_pos h; exact ⟨rfl, by rw [lv_cell3]; omega⟩

theorem add_pos_cases {A B : CellTallies nD τ sig Unit} {g : GSem nD τ sig} {u : Unit} (h : 0 < (A + B) g u) : 0 < A g u ∨ 0 < B g u := by
  rw [Pi.add_apply, Finsupp.add_apply] at h; omega
theorem tally_pos {g₀ g : GSem nD τ sig} {n : ℕ} {u : Unit} (h : 0 < (tallyAt g₀ () n : CellTallies nD τ sig Unit) g u) : g = g₀ := by
  rw [tallyAt_apply] at h
  by_contra hn
  rw [if_neg (fun h' => hn h'.1)] at h
  exact Nat.lt_irrefl 0 h

theorem O₀_above {c : Dev nD} {g : GSem nD τ sig} {u : Unit} (h : 0 < O₀ c g u) : g.1.2 = .tc ∧ 0 < lv g () := by
  unfold O₀ O₁ at h
  rcases add_pos_cases h with h | h
  · rcases add_pos_cases h with h | h
    · rcases add_pos_cases h with h | h
      · exact OY_above (n := 0) (by omega) h
      · exact ⟨(OX_above h).1, Nat.lt_of_succ_lt (OX_above h).2⟩
    · rw [tally_pos h]; exact ⟨rfl, Nat.one_pos⟩
  · rw [tally_pos h]; exact ⟨rfl, Nat.one_pos⟩

omit [FloatOps F] in
/-- The pipeline's own waits: at the start, and at the end where nothing is owed. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g u h => O₀_above h
    show (if 28 ≤ q.val then _ else if 12 ≤ q.val ∧ q.val < 20 then 2 else 0) ≤ 0
    rw [if_neg (by omega), if_neg (by omega)]
  · rw [MayWait_zero]; iintro -; iempintro
omit [FloatOps F] in
theorem mayWait_bar (c : Dev nD) : (levAts L lv : sProp 𝕄) ⊢ MayWait (c : Thread nD τ) (.reg barS) () (OY c 0 + OX c 0) :=
  mayWait_of c _ _ 1 le_rfl fun g u h => (add_pos_cases h).elim (OY_above (by omega)) OX_above
omit [FloatOps F] in
theorem mayWait_xr (c : Dev nD) (i : Fin 8) (k : ℕ) : (levAts L lv : sProp 𝕄) ⊢ MayWait (c : Thread nD τ) (.dma (fsem 1 i)) () (OY c k) :=
  mayWait_of c _ _ 2 (lv_cell1 c i).le fun g u h => OY_above (by omega) h
omit [FloatOps F] in
theorem mayWait_yr (c : Dev nD) (i : Fin 8) (k : ℕ) (hk : i.val < k) : (levAts L lv : sProp 𝕄) ⊢ MayWait (c : Thread nD τ) (.dma (fsem 3 i)) () (OY c k) :=
  mayWait_of c _ _ (3 + i.val) (lv_cell3 c i).le fun g u h => OY_above (by omega) h

end Cert.Exchange

end
-- ==== Proof.Steps.lean ====
/-
# One step of the exchange at a time

What a device holds of the exchange is packed in a few families indexed by the eight transfers; each rule below takes the
family at transfer `k` to the family at `k + 1` across one statement of the kernel.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (X : Bool → Dev nD → Vec F S4x256x1024 .bf16)

/-! ## Families over the transfers -/

/-- `P` of the transfers from `k` on, -/
def fromP (P : Fin 8 → sProp 𝕄) (k : ℕ) : sProp 𝕄 := bigSep (Finset.univ.filter fun i : Fin 8 => k ≤ i.val) P
/-- and of those before `k`. -/
def uptoP (P : Fin 8 → sProp 𝕄) (k : ℕ) : sProp 𝕄 := bigSep (Finset.univ.filter fun i : Fin 8 => i.val < k) P

omit [FloatOps F] in
theorem fromP_peel (P : Fin 8 → sProp 𝕄) {k : ℕ} (hk : k < 8) : fromP P k = iprop(P ⟨k, hk⟩ ∗ fromP P (k + 1)) := by
  unfold fromP; rw [filter_peel hk, bigSep_insert (filter_peel_notMem hk)]; rfl
omit [FloatOps F] in
theorem uptoP_push (P : Fin 8 → sProp 𝕄) {k : ℕ} (hk : k < 8) : uptoP P (k + 1) = iprop(P ⟨k, hk⟩ ∗ uptoP P k) := by
  unfold uptoP
  rw [show (Finset.univ.filter fun i : Fin 8 => i.val < k + 1) = insert (⟨k, hk⟩ : Fin 8) (Finset.univ.filter fun i : Fin 8 => i.val < k) by
    ext i
    simp only [Finset.mem_filter, Finset.mem_univ, true_and, Finset.mem_insert, Fin.ext_iff]
    omega, bigSep_insert (by simp)]; rfl
omit [FloatOps F] in
theorem fromP_zero (P : Fin 8 → sProp 𝕄) : fromP P 0 = bigSep Finset.univ P := by
  unfold fromP; congr 1
omit [FloatOps F] in
theorem uptoP_zero (P : Fin 8 → sProp 𝕄) : uptoP P 0 = iprop(emp) := by
  unfold uptoP
  rw [show (Finset.univ.filter fun i : Fin 8 => i.val < 0) = ∅ by ext i; simp]; rw [bigSep_empty]; rfl
omit [FloatOps F] in
theorem uptoP_all (P : Fin 8 → sProp 𝕄) : uptoP P 8 = bigSep Finset.univ P := by
  unfold uptoP; congr 1

/-! ## The cells' records -/

/-- All of a device's cells: its barrier, and the transfers'. -/
abbrev CK : Type := Unit ⊕ (Fin 4 × Fin 8)
abbrev csem : CK → SemLoc sig
  | .inl _ => .reg barS
  | .inr fi => .dma (fsem fi.1 fi.2)
abbrev kcell (ck : Dev nD × CK) : GSem nD τ sig := ((ck.1 : Thread nD τ), csem ck.2)

/-- Every cell's invariant, at the names `K`, and that its round 0 is reached. -/
def records (K : Dev nD × CK → ℕ) : sProp 𝕄 :=
  iprop((bigSep Finset.univ fun ck : Dev nD × CK => cellInv ER (exRd X) (K ck) (kcell ck))
    ∗ bigSep Finset.univ fun ck : Dev nD × CK => reached ER (kcell ck) 0)

instance records_persistent (K : Dev nD × CK → ℕ) : BI.Persistent (records X K) := by unfold records; infer_instance

omit [FloatOps F] in
theorem inv_of (K : Dev nD × CK → ℕ) (c : Dev nD) (f : Fin 4) (i : Fin 8) :
    records X K ⊢ cellInv ER (exRd X) (K (c, .inr (f, i))) (cell c f i) := by
  unfold records
  iintro ⟨#H, -⟩
  iapply (show (bigSep Finset.univ fun ck : Dev nD × CK => (cellInv ER (exRd X) (K ck) (kcell ck) : sProp 𝕄)) ⊢ _ from bigSep_elim (Finset.mem_univ (c, .inr (f, i))))
  iexact H
omit [FloatOps F] in
theorem inv_bar (K : Dev nD × CK → ℕ) (c : Dev nD) :
    records X K ⊢ cellInv ER (exRd X) (K (c, .inl ())) (barCell c) := by
  unfold records
  iintro ⟨#H, -⟩
  iapply (show (bigSep Finset.univ fun ck : Dev nD × CK => (cellInv ER (exRd X) (K ck) (kcell ck) : sProp 𝕄)) ⊢ _ from bigSep_elim (Finset.mem_univ (c, .inl ())))
  iexact H
omit [FloatOps F] in
theorem reached_of (K : Dev nD × CK → ℕ) (c : Dev nD) (f : Fin 4) (i : Fin 8) :
    records X K ⊢ reached ER (cell c f i) 0 := by
  unfold records
  iintro ⟨-, #H⟩
  iapply (show (bigSep Finset.univ fun ck : Dev nD × CK => (reached ER (kcell ck) 0 : sProp 𝕄)) ⊢ _ from bigSep_elim (Finset.mem_univ (c, .inr (f, i))))
  iexact H
omit [FloatOps F] in
theorem reached_bar (K : Dev nD × CK → ℕ) (c : Dev nD) :
    records X K ⊢ reached ER (barCell c) 0 := by
  unfold records
  iintro ⟨-, #H⟩
  iapply (show (bigSep Finset.univ fun ck : Dev nD × CK => (reached ER (kcell ck) 0 : sProp 𝕄)) ⊢ _ from bigSep_elim (Finset.mem_univ (c, .inl ())))
  iexact H

/-- What device `c` owes, whatever its waits so far. -/
def Ow (c : Dev nD) (O : CellTallies nD τ sig Unit) : sProp 𝕄 := iprop(∃ W, owes (c : Thread nD τ) O W)

/-! ## Rows of a buffer and their shares -/

/-- A row of a sending buffer at a share, -/
def sndRow (c : Dev nD) (i : Fin 8) (q : PosShare TreeShare) : sProp 𝕄 :=
  (sndM (ti i)).view.loc (c : Thread nD τ) ↦[(sndM (ti i)).view.setOn (rowSet (bi i))]{q} sndB c (ti i) (X (ti i) c)
/-- what stays of it while the window of its own column half is lent. -/
def sndRest (c : Dev nD) (i : Fin 8) (q : PosShare TreeShare) : sProp 𝕄 :=
  (sndM (ti i)).view.loc (c : Thread nD τ) ↦[(sndM (ti i)).view.setOn (rowSet (bi i)) \ (sndM (ti i)).view.setOn (winSet (bi i) (yof c))]{q} sndB c (ti i) (X (ti i) c)
/-- A row of a receiving buffer, filled. -/
def rcvRow (c : Dev nD) (i : Fin 8) (q : PosShare TreeShare) : sProp 𝕄 :=
  (rcvM (ti i)).view.loc (c : Thread nD τ) ↦[(rcvM (ti i)).view.setOn (rowSet (bi i))]{q} rcvB c (ti i) (rcvX (X (ti i)) c)

omit [FloatOps F] in
theorem setOn_mono (M : Memref sig .tc .vmem S4x256x1024 .bf16) {S S' : Finset S4x256x1024.Idx} (h : S ⊆ S') : M.view.setOn S ⊆ M.view.setOn S' :=
  Finset.map_subset_map.mpr h

omit [FloatOps F] in
theorem snd_lend (c : Dev nD) (i : Fin 8) (q : PosShare TreeShare) :
    sndRow X c i q ⊣⊢ iprop(sndWin X c i (yof c) q ∗ sndRest X c i q) :=
  pointsTo_split_subset (setOn_mono _ (winSet_subset _ _))

omit [FloatOps F] in
theorem snd_share (c : Dev nD) (i : Fin 8) :
    sndRow X c i fullShare ⊣⊢ iprop(sndRow X c i fullShare.left ∗ sndRow X c i fullShare.right) :=
  pointsTo_share (PosShare.mem_left_op_right fullShare)
omit [FloatOps F] in
theorem rcvWin_share (c : Dev nD) (i : Fin 8) (y : ℕ) :
    rcvWin X c i y fullShare ⊣⊢ iprop(rcvWin X c i y fullShare.left ∗ rcvWin X c i y fullShare.right) :=
  pointsTo_share (PosShare.mem_left_op_right fullShare)

omit [FloatOps F] in
theorem rcv_join (c : Dev nD) (i : Fin 8) (q : PosShare TreeShare) :
    rcvRow X c i q ⊣⊢ iprop(rcvWin X c i (yof c) q ∗ rcvWin X c i (1 - yof c) q) := by
  unfold rcvRow rcvWin
  rw [← winSet_union (bi i) (yof c) (yof_lt c)]
  have hu : (rcvM (ti i)).view.setOn (winSet (bi i) (yof c) ∪ winSet (bi i) (1 - yof c))
      = (rcvM (ti i)).view.setOn (winSet (bi i) (yof c)) ∪ (rcvM (ti i)).view.setOn (winSet (bi i) (1 - yof c)) := Finset.map_union _ _
  rw [hu]
  exact pointsTo_union ((Finset.disjoint_map _).mpr (winSet_disjoint _ _ (yof_lt c)))

/-! ## Sending to the partner -/

/-- What transfer `i` to the partner needs besides its row, -/
def xPre (c : Dev nD) (i : Fin 8) : sProp 𝕄 :=
  iprop(dutyTok ER (cell c 0 i) 0 false ∗ dutyTok ER (cell (partner c) 1 i) 0 false ∗ landWin (partner c) i (yof c))
/-- and what it leaves until its departure is waited for. -/
def xMid (c : Dev nD) (i : Fin 8) : sProp 𝕄 :=
  iprop(sndRest X c i fullShare.right ∗ cred (tallyAt (cell c 0 i) () N))
/-- The exchange with `k` transfers to the partner started. -/
def XS (c : Dev nD) (k : ℕ) : sProp 𝕄 :=
  iprop(fromP (xPre (F := F) c) k ∗ uptoP (xMid X c) k ∗ uptoP (fun i => sndRow X c i fullShare.left) k ∗ Ow c (OY c 0 + OX c k))

omit [FloatOps F] in
theorem amount_win (t : Bool) {off : Fin 3 → ℕ} (inb : ∀ a, off a + S1x256x512.size a ≤ S4x256x1024.size a) (s : DmaSem sig) :
    (winM (rcvM t) inb).view.amount (.dma s) = N := by cases t <;> rfl
omit [FloatOps F] in
theorem credit_rcv (t : Bool) {off : Fin 3 → ℕ} (inb : ∀ a, off a + S1x256x512.size a ≤ S4x256x1024.size a) :
    (winM (rcvM t) inb).view.dmaCredit = N := by cases t <;> rfl
omit [FloatOps F] in
theorem credit_snd (t : Bool) {off : Fin 3 → ℕ} (inb : ∀ a, off a + S1x256x512.size a ≤ S4x256x1024.size a) :
    (winM (sndM t) inb).view.dmaCredit = N := by cases t <;> rfl

section Send

variable {off : Fin 3 → ℕ} {inb : ∀ a, off a + S1x256x512.size a ≤ S4x256x1024.size a}

/-- Transfer `k` to the partner: its row, just stored, lends its window. -/
theorem step_xsend (K : Dev nD × CK → ℕ) (c : Dev nD) {α : Type} {Q : α → sProp 𝕄} {k' : PUnit → Prog (TpuEff nD τ sig (Elt F) Λ₀ .tc) α}
    (k : ℕ) (hk : k < 8) (t : Bool) (ht : t = ti ⟨k, hk⟩) (n : Dev nD) (hn : n = partner c) (hoff : off = ![bi ⟨k, hk⟩, 0, 512 * yof c])
    (s₁ s₂ : DmaSem sig) (h₁ : s₁ = fsem 0 ⟨k, hk⟩) (h₂ : s₂ = fsem 1 ⟨k, hk⟩)
    {hsc : (winM (rcvM t) inb : Memref sig (Dev.tc n : Thread nD τ).2.kind .vmem S256x512 .bf16).view.ref.isScScratch = false}
    {hsrc : (winM (sndM t) inb).view.WordExact} {hdst : (winM (rcvM t) inb).view.WordExact}
    {hsem : DmaTarget.Typed .vmem (.dma s₂) (.remote (Dev.tc n : Thread nD τ) (winM (rcvM t) inb) (.dma s₁) hsc)} :
    iprop(records X K ∗ XS X c k ∗ sndRow X c ⟨k, hk⟩ fullShare)
      ⊢ iprop((XS X c (k + 1) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma (winM (sndM t) inb) (.remote (Dev.tc n : Thread nD τ) (winM (rcvM t) inb) (.dma s₁) hsc) (.dma s₂) hsrc hdst hsem) k') Q) := by
  subst ht hn h₁ h₂
  unfold XS Ow
  rw [fromP_peel _ hk, uptoP_push _ hk, uptoP_push _ hk]
  generalize hi : (⟨k, hk⟩ : Fin 8) = i at *
  iintro ⟨#HR, ⟨⟨Hp, Hfrom⟩, Hup, Hleft, ⟨%W, HO⟩⟩, Hrow⟩ Hk
  unfold xPre landWin
  icases Hp with ⟨Ht0, Ht1, ⟨%fd, Hland⟩⟩
  ihave Hrow := (snd_share X c i).1 $$ Hrow
  icases Hrow with ⟨HrowL, HrowR⟩
  ihave HrowR := (snd_lend X c i fullShare.right).1 $$ HrowR
  icases HrowR with ⟨Hwin, Hrest⟩
  iapply (Rounds.wp_send_pointsTo 𝒱₀ ER (exRd X) (c : Thread nD τ) none (κ₁ := K (c, .inr (0, i))) (κ₂ := K (partner c, .inr (1, i)))
      (src := winM (sndM (ti i)) inb) (c' := (partner c : Thread nD τ)) (dst := winM (rcvM (ti i)) inb) (q := fullShare.right) (fs := sndB c (ti i) (X (ti i) c)) (fd := fd)
      (r₁ := 0) (r₂ := 0) (O₀ := OY c 0 + OX c k) (d₁ := false) (d₂ := false)
      (by rw [duties_cell]; exact Finset.mem_singleton_self _) (by rw [duties_cell]; exact Finset.mem_singleton_self _)
      () () N (amount_win (ti i) inb _) (amount_cell X c 0 i false) (amount_cell X (partner c) 1 i false) (OY c 0 + OX c (k + 1))
      (by rw [OX_peel c hk, hi, ← add_assoc]) (W := W)
      (by rw [payload_cell, winM_set _ inb hoff]; exact BI.Entails.refl _)
      (by
        rw [payload_cell]
        show _ ⊢ rcvWin X (partner c) i (yof (partner c)) fullShare
        unfold rcvWin
        rw [← winM_set _ inb (hoff.trans (by rw [yof_partner]))]
        refine Entails.of_eq (pointsTo_congr fun x hx => ?_)
        rw [copy_snd c (partner c) (ti i) inb fd (X (ti i) c) x hx]
        rw [winM_set _ inb hoff] at hx
        exact rcvB_congr (partner c) (ti i) (winSet (bi i) (yof c)) _ _ (fun x hx => by
          rw [rcvX_own (X (ti i)) (partner c) (bi i) x (by rw [yof_partner]; exact hx), partner_partner]) x hx)) $$ [Hwin Hland HO Ht0 Ht1]
  · isplitr; · iapply (inv_of X K c 0 i); iexact HR
    isplitr; · iapply (inv_of X K (partner c) 1 i); iexact HR
    isplitl [Hwin]; · rw [winM_set _ inb hoff]; unfold sndWin; iexact Hwin
    isplitl [Hland]; · rw [winM_set _ inb hoff]; iexact Hland
    isplitl [HO]; · iexact HO
    isplitl [Ht0]; · iexact Ht0
    isplitr; · iapply (reached_of X K c 0 i); iexact HR
    isplitl [Ht1]; · iexact Ht1
    iapply (reached_of X K (partner c) 1 i); iexact HR
  iintro ⟨Hcr, HO⟩
  iapply Hk
  isplitl [Hfrom]; · iexact Hfrom
  isplitl [Hrest Hcr Hup]
  · isplitl [Hrest Hcr]
    · unfold xMid; isplitl [Hrest] <;> iassumption
    iexact Hup
  isplitl [HrowL Hleft]
  · isplitl [HrowL] <;> iassumption
  iexists W; iexact HO

/-! ## Waiting for a transfer's credit -/

/-- The one wait rule: transfer `i`'s credit of family `f` comes with its payload, and the cell is closed. -/
theorem step_wait (K : Dev nD × CK → ℕ) (c : Dev nD) {α : Type} {Q : α → sProp 𝕄} {k' : PUnit → Prog (TpuEff nD τ sig (Elt F) Λ₀ .tc) α}
    (f : Fin 4) (i : Fin 8) (O : CellTallies nD τ sig Unit) (hO : (levAts L lv : sProp 𝕄) ⊢ MayWait (c : Thread nD τ) (.dma (fsem f i)) () O)
    (s : DmaSem sig) (hs : s = fsem f i) {src dst : Memref sig .tc .vmem S256x512 .bf16} (hd : dst.view.dmaCredit = N)
    {hsrc : src.view.WordExact} {hdst : dst.view.WordExact} :
    iprop(records X K ∗ levAts L lv ∗ atPos ER (cell c f i) 0 ∅ 0 ∗ cred (tallyAt (cell c f i) () N) ∗ Ow c O)
      ⊢ iprop((iprop(xferPay X c f i ∗ semVal (cell c f i) 0 ∗ Ow c O) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  subst hs
  unfold Ow
  iintro ⟨#HR, #Hlev, Hat, Hcr, ⟨%W, HO⟩⟩ Hk
  ihave #HI := (inv_of X K c f i) $$ HR
  ihave Hm := hO $$ Hlev
  iapply (Rounds.wp_wait_rest_token 𝒱₀ ER (exRd X) (c : Thread nD τ) none (wpE_waitDma2_eq 𝒱₀ (c : Thread nD τ) none Set.univ (dst := dst) (hdst := hdst)) (Set.mem_univ (K (c, .inr (f, i)))) () (O := O) (W := W)
      (R := 0) (m := 0) (T := ∅) (by rw [expect_cell, hd, Nat.zero_add])) $$ [Hcr HO Hm Hat]
  · rw [hd]
    isplitr; · iexact HI
    isplitl [Hcr]; · iexact Hcr
    isplitl [HO]; · iexact HO
    isplitl [Hm] <;> iassumption
  rw [rest_cell]
  iintro ⟨HO, Hat, -, Hp⟩
  imod (Rounds.cell_close ER (exRd X) (Set.mem_univ _) (fun h => h) (R := 0 + 1) (duties_later X (cell c f i))) $$ [Hat] with HS
  · isplitr; · iexact HI
    iexact Hat
  iapply Hk
  isplitl [Hp]; · iexact Hp
  isplitl [HS]; · iexact HS
  iexists _; iexact HO

/-! ## Receiving from the partner, passing on to the peer, receiving from the peer -/

end Send

/-- What the wait for a transfer's credit needs. -/
def wPre (f : Fin 4) (c : Dev nD) (i : Fin 8) : sProp 𝕄 := iprop(atPos ER (cell c f i) 0 ∅ 0 ∗ cred (tallyAt (cell c f i) () N))
/-- A closed cell. -/
def wPost (f : Fin 4) (c : Dev nD) (i : Fin 8) : sProp 𝕄 := semVal (cell c f i) 0
/-- What passing transfer `i` on to the peer needs besides the window received. -/
def yPre (c : Dev nD) (i : Fin 8) : sProp 𝕄 :=
  iprop(dutyTok ER (cell c 2 i) 0 false ∗ dutyTok ER (cell (peer c) 3 i) 0 false ∗ landWin (peer c) i (yof c))
def yMid (c : Dev nD) (i : Fin 8) : sProp 𝕄 := cred (tallyAt (cell c 2 i) () N)
def rPost (c : Dev nD) (i : Fin 8) : sProp 𝕄 := iprop(semVal (cell c 3 i) 0 ∗ rcvWin X c i (1 - yof c) fullShare.right)

/-- The exchange once all of the device's own rows are on their way: `a` transfers received from the partner, `b` passed on to
    the peer, `d` received from the peer. -/
def YS (c : Dev nD) (a b d : ℕ) : sProp 𝕄 :=
  iprop((fromP (wPre (F := F) 1 c) a ∗ uptoP (wPost (F := F) 1 c) a) ∗ (fromP (yPre (F := F) c) b ∗ uptoP (yMid (F := F) c) b)
    ∗ (fromP (wPre (F := F) 3 c) d ∗ uptoP (rPost X c) d) ∗ Ow c (OY c b))

section Receive

theorem step_xrwait (K : Dev nD × CK → ℕ) (c : Dev nD) {α : Type} {Q : α → sProp 𝕄} {k' : PUnit → Prog (TpuEff nD τ sig (Elt F) Λ₀ .tc) α}
    (a b d : ℕ) (ha : a < 8) (s : DmaSem sig) (hs : s = fsem 1 ⟨a, ha⟩) {src dst : Memref sig .tc .vmem S256x512 .bf16}
    (hd : dst.view.dmaCredit = N) {hsrc : src.view.WordExact} {hdst : dst.view.WordExact} :
    iprop(records X K ∗ levAts L lv ∗ YS X c a b d)
      ⊢ iprop((iprop(YS X c (a + 1) b d ∗ rcvWin X c ⟨a, ha⟩ (yof c) fullShare) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  unfold YS
  rw [fromP_peel _ ha, uptoP_push _ ha]
  unfold wPre wPost
  iintro ⟨#HR, #Hlev, ⟨⟨⟨Hat, Hcr⟩, Hf⟩, Hu⟩, Hy, Hr, HO⟩ Hk
  iapply (step_wait X K c 1 ⟨a, ha⟩ (OY c b) (mayWait_xr c _ b) s hs hd) $$ [Hat Hcr HO]
  · isplitr; · iexact HR
    isplitr; · iexact Hlev
    isplitl [Hat]; · iexact Hat
    isplitl [Hcr]; · iexact Hcr
    iexact HO
  iintro ⟨Hp, HS, HO⟩
  ihave Hp := (show xferPay X c 1 ⟨a, ha⟩ ⊢ rcvWin X c ⟨a, ha⟩ (yof c) fullShare from BI.Entails.refl _) $$ Hp
  iapply Hk
  isplitr [Hp]
  · isplitl [Hf Hu HS]
    · isplitl [Hf]; · iexact Hf
      isplitl [HS] <;> iassumption
    isplitl [Hy]; · iexact Hy
    isplitl [Hr] <;> iassumption
  · iexact Hp

theorem step_yrwait (K : Dev nD × CK → ℕ) (c : Dev nD) {α : Type} {Q : α → sProp 𝕄} {k' : PUnit → Prog (TpuEff nD τ sig (Elt F) Λ₀ .tc) α}
    (a b d : ℕ) (hd' : d < 8) (hb : d < b) (s : DmaSem sig) (hs : s = fsem 3 ⟨d, hd'⟩) {src dst : Memref sig .tc .vmem S256x512 .bf16}
    (hd : dst.view.dmaCredit = N) {hsrc : src.view.WordExact} {hdst : dst.view.WordExact} :
    iprop(records X K ∗ levAts L lv ∗ YS X c a b d ∗ rcvWin X c ⟨d, hd'⟩ (yof c) fullShare.left)
      ⊢ iprop((iprop(YS X c a b (d + 1) ∗ rcvRow X c ⟨d, hd'⟩ fullShare.left) -∗ wp frame (wpE (defs₀ (F := F)) 𝒱₀ (c : Thread nD τ) none) Set.univ (k' ⟨⟩) Q)
          -∗ wp frame (wpE (defs₀ (F := F)) 𝒱₀ (c : Thread nD τ) none) Set.univ (.op (.waitDma2 s src dst hsrc hdst) k') Q) := by
  unfold YS
  rw [fromP_peel (wPre 3 c) hd', uptoP_push (rPost X c) hd']
  unfold wPre rPost
  iintro ⟨#HR, #Hlev, ⟨Hx, Hy, ⟨⟨⟨Hat, Hcr⟩, Hf⟩, Hu⟩, HO⟩, HW⟩ Hk
  iapply (step_wait X K c 3 ⟨d, hd'⟩ (OY c b) (mayWait_yr c _ b hb) s hs hd) $$ [Hat Hcr HO]
  · isplitr; · iexact HR
    isplitr; · iexact Hlev
    isplitl [Hat]; · iexact Hat
    isplitl [Hcr]; · iexact Hcr
    iexact HO
  iintro ⟨Hp, HS, HO⟩
  ihave Hp := (show xferPay X c 3 ⟨d, hd'⟩ ⊢ _ from (rcvWin_share X c ⟨d, hd'⟩ (1 - yof c)).1) $$ Hp
  icases Hp with ⟨HpL, HpR⟩
  iapply Hk
  isplitr [HpL HW]
  · isplitl [Hx]; · iexact Hx
    isplitl [Hy]; · iexact Hy
    isplitr [HO]
    · isplitl [Hf]; · iexact Hf
      isplitr [Hu]
      · isplitl [HS] <;> iassumption
      iexact Hu
    iexact HO
  · iapply (rcv_join X c ⟨d, hd'⟩ fullShare.left).2
    isplitl [HW] <;> iassumption

variable {off : Fin 3 → ℕ} {inb : ∀ a, off a + S1x256x512.size a ≤ S4x256x1024.size a}

theorem step_ysend (K : Dev nD × CK → ℕ) (c : Dev nD) {α : Type} {Q : α → sProp 𝕄} {k' : PUnit → Prog (TpuEff nD τ sig (Elt F) Λ₀ .tc) α}
    (a b d : ℕ) (hb : b < 8) (t : Bool) (ht : t = ti ⟨b, hb⟩) (n : Dev nD) (hn : n = peer c) (hoff : off = ![bi ⟨b, hb⟩, 0, 512 * yof c])
    (s₁ s₂ : DmaSem sig) (h₁ : s₁ = fsem 2 ⟨b, hb⟩) (h₂ : s₂ = fsem 3 ⟨b, hb⟩)
    {hsc : (winM (rcvM t) inb : Memref sig (Dev.tc n : Thread nD τ).2.kind .vmem S256x512 .bf16).view.ref.isScScratch = false}
    {hsrc : (winM (rcvM t) inb).view.WordExact} {hdst : (winM (rcvM t) inb).view.WordExact}
    {hsem : DmaTarget.Typed .vmem (.dma s₂) (.remote (Dev.tc n : Thread nD τ) (winM (rcvM t) inb) (.dma s₁) hsc)} :
    iprop(records X K ∗ YS X c a b d ∗ rcvWin X c ⟨b, hb⟩ (yof c) fullShare)
      ⊢ iprop((iprop(YS X c a (b + 1) d ∗ rcvWin X c ⟨b, hb⟩ (yof c) fullShare.left) -∗ wp frame (wpE (defs₀ (F := F)) 𝒱₀ (c : Thread nD τ) none) Set.univ (k' ⟨⟩) Q)
          -∗ wp frame (wpE (defs₀ (F := F)) 𝒱₀ (c : Thread nD τ) none) Set.univ (.op (.enqueueDma (winM (rcvM t) inb) (.remote (Dev.tc n : Thread nD τ) (winM (rcvM t) inb) (.dma s₁) hsc) (.dma s₂) hsrc hdst hsem) k') Q) := by
  subst ht hn h₁ h₂
  unfold YS Ow
  rw [fromP_peel (yPre c) hb, uptoP_push (yMid c) hb]
  generalize hi : (⟨b, hb⟩ : Fin 8) = i at *
  iintro ⟨#HR, ⟨Hx, ⟨⟨Hp, Hfrom⟩, Hup⟩, Hr, ⟨%W, HO⟩⟩, HW⟩ Hk
  unfold yPre landWin
  icases Hp with ⟨Ht0, Ht1, ⟨%fd, Hland⟩⟩
  ihave HW := (rcvWin_share X c i (yof c)).1 $$ HW
  icases HW with ⟨HWL, HWR⟩
  iapply (Rounds.wp_send_pointsTo 𝒱₀ ER (exRd X) (c : Thread nD τ) none (κ₁ := K (c, .inr (2, i))) (κ₂ := K (peer c, .inr (3, i)))
      (src := winM (rcvM (ti i)) inb) (c' := (peer c : Thread nD τ)) (dst := winM (rcvM (ti i)) inb) (q := fullShare.right) (fs := rcvB c (ti i) (rcvX (X (ti i)) c)) (fd := fd)
      (r₁ := 0) (r₂ := 0) (O₀ := OY c b) (d₁ := false) (d₂ := false)
      (by rw [duties_cell]; exact Finset.mem_singleton_self _) (by rw [duties_cell]; exact Finset.mem_singleton_self _)
      () () N (amount_win (ti i) inb _) (amount_cell X c 2 i false) (amount_cell X (peer c) 3 i false) (OY c (b + 1))
      (by rw [OY_peel c hb, hi]) (W := W)
      (by rw [payload_cell, winM_set _ inb hoff]; exact BI.Entails.refl _)
      (by
        rw [payload_cell]
        show _ ⊢ rcvWin X (peer c) i (1 - yof (peer c)) fullShare
        unfold rcvWin
        have hy : 1 - yof (peer c) = yof c := by have := yof_lt c; rw [yof_peer]; omega
        rw [hy, ← winM_set _ inb hoff]
        refine Entails.of_eq (pointsTo_congr fun x hx => ?_)
        rw [copy_rcv c (peer c) (ti i) inb fd (rcvX (X (ti i)) c) x hx]
        rw [winM_set _ inb hoff] at hx
        exact rcvB_congr (peer c) (ti i) (winSet (bi i) (yof c)) _ _ (fun x hx => by
          rw [rcvX_own (X (ti i)) c (bi i) x hx, rcvX_other (X (ti i)) (peer c) (bi i) x (by rw [hy]; exact hx), peer_peer]) x hx)) $$ [HWR Hland HO Ht0 Ht1]
  · isplitr; · iapply (inv_of X K c 2 i); iexact HR
    isplitr; · iapply (inv_of X K (peer c) 3 i); iexact HR
    isplitl [HWR]; · rw [winM_set _ inb hoff]; unfold rcvWin; iexact HWR
    isplitl [Hland]; · rw [winM_set _ inb hoff]; iexact Hland
    isplitl [HO]; · iexact HO
    isplitl [Ht0]; · iexact Ht0
    isplitr; · iapply (reached_of X K c 2 i); iexact HR
    isplitl [Ht1]; · iexact Ht1
    iapply (reached_of X K (peer c) 3 i); iexact HR
  iintro ⟨Hcr, HO⟩
  iapply Hk
  isplitr [HWL]
  · isplitl [Hx]; · iexact Hx
    isplitl [Hfrom Hcr Hup]
    · isplitl [Hfrom]; · iexact Hfrom
      unfold yMid
      isplitl [Hcr] <;> iassumption
    isplitl [Hr]; · iexact Hr
    iexists W; iexact HO
  · iexact HWL

end Receive

/-! ## The last waits: every window lent comes back -/

def xPost (c : Dev nD) (i : Fin 8) : sProp 𝕄 := iprop(semVal (cell c 0 i) 0 ∗ sndRow X c i fullShare.right)
def yPost (c : Dev nD) (i : Fin 8) : sProp 𝕄 := iprop(semVal (cell c 2 i) 0 ∗ rcvWin X c i (yof c) fullShare.right)

/-- The exchange with `a` departures to the partner and `b` to the peer waited for. -/
def ES (c : Dev nD) (a b : ℕ) : sProp 𝕄 :=
  iprop((fromP (fun i => iprop(wPre (F := F) 0 c i ∗ sndRest X c i fullShare.right)) a ∗ uptoP (xPost X c) a)
    ∗ (fromP (wPre (F := F) 2 c) b ∗ uptoP (yPost X c) b) ∗ Ow c 0)

section Finish

theorem step_xswait (K : Dev nD × CK → ℕ) (c : Dev nD) {α : Type} {Q : α → sProp 𝕄} {k' : PUnit → Prog (TpuEff nD τ sig (Elt F) Λ₀ .tc) α}
    (a b : ℕ) (ha : a < 8) (s : DmaSem sig) (hs : s = fsem 0 ⟨a, ha⟩) {src dst : Memref sig .tc .vmem S256x512 .bf16}
    (hd : dst.view.dmaCredit = N) {hsrc : src.view.WordExact} {hdst : dst.view.WordExact} :
    iprop(records X K ∗ levAts L lv ∗ ES X c a b)
      ⊢ iprop((ES X c (a + 1) b -∗ wp frame (wpE (defs₀ (F := F)) 𝒱₀ (c : Thread nD τ) none) Set.univ (k' ⟨⟩) Q) -∗ wp frame (wpE (defs₀ (F := F)) 𝒱₀ (c : Thread nD τ) none) Set.univ (.op (.waitDma2 s src dst hsrc hdst) k') Q) := by
  unfold ES
  rw [fromP_peel _ ha, uptoP_push _ ha]
  unfold wPre xPost
  iintro ⟨#HR, #Hlev, ⟨⟨⟨⟨Hat, Hcr⟩, Hrest⟩, Hf⟩, Hu⟩, Hy, HO⟩ Hk
  iapply (step_wait X K c 0 ⟨a, ha⟩ 0 (by rw [MayWait_zero]; iintro -; iempintro) s hs hd) $$ [Hat Hcr HO]
  · isplitr; · iexact HR
    isplitr; · iexact Hlev
    isplitl [Hat]; · iexact Hat
    isplitl [Hcr]; · iexact Hcr
    iexact HO
  iintro ⟨Hp, HS, HO⟩
  ihave Hp := (show xferPay X c 0 ⟨a, ha⟩ ⊢ sndWin X c ⟨a, ha⟩ (yof c) fullShare.right from BI.Entails.refl _) $$ Hp
  iapply Hk
  isplitr [Hy HO]
  · isplitl [Hf]; · iexact Hf
    isplitr [Hu]
    · isplitl [HS]; · iexact HS
      iapply (snd_lend X c ⟨a, ha⟩ fullShare.right).2
      isplitl [Hp] <;> iassumption
    iexact Hu
  · isplitl [Hy] <;> iassumption

theorem step_yswait (K : Dev nD × CK → ℕ) (c : Dev nD) {α : Type} {Q : α → sProp 𝕄} {k' : PUnit → Prog (TpuEff nD τ sig (Elt F) Λ₀ .tc) α}
    (a b : ℕ) (hb : b < 8) (s : DmaSem sig) (hs : s = fsem 2 ⟨b, hb⟩) {src dst : Memref sig .tc .vmem S256x512 .bf16}
    (hd : dst.view.dmaCredit = N) {hsrc : src.view.WordExact} {hdst : dst.view.WordExact} :
    iprop(records X K ∗ levAts L lv ∗ ES X c a b)
      ⊢ iprop((ES X c a (b + 1) -∗ wp frame (wpE (defs₀ (F := F)) 𝒱₀ (c : Thread nD τ) none) Set.univ (k' ⟨⟩) Q) -∗ wp frame (wpE (defs₀ (F := F)) 𝒱₀ (c : Thread nD τ) none) Set.univ (.op (.waitDma2 s src dst hsrc hdst) k') Q) := by
  unfold ES
  rw [fromP_peel (wPre 2 c) hb, uptoP_push (yPost X c) hb]
  unfold yPost
  rw [show wPre (F := F) 2 c ⟨b, hb⟩ = iprop(atPos ER (cell c 2 ⟨b, hb⟩) 0 ∅ 0 ∗ cred (tallyAt (cell c 2 ⟨b, hb⟩) () N)) from rfl]
  iintro ⟨#HR, #Hlev, Hx, ⟨⟨⟨Hat, Hcr⟩, Hf⟩, Hu⟩, HO⟩ Hk
  iapply (step_wait X K c 2 ⟨b, hb⟩ 0 (by rw [MayWait_zero]; iintro -; iempintro) s hs hd) $$ [Hat Hcr HO]
  · isplitr; · iexact HR
    isplitr; · iexact Hlev
    isplitl [Hat]; · iexact Hat
    isplitl [Hcr]; · iexact Hcr
    iexact HO
  iintro ⟨Hp, HS, HO⟩
  ihave Hp := (show xferPay X c 2 ⟨b, hb⟩ ⊢ rcvWin X c ⟨b, hb⟩ (yof c) fullShare.right from BI.Entails.refl _) $$ Hp
  iapply Hk
  isplitl [Hx]; · iexact Hx
  isplitr [HO]
  · isplitl [Hf]; · iexact Hf
    isplitr [Hu]
    · isplitl [HS]; · iexact HS
      iexact Hp
    iexact Hu
  · iexact HO

end Finish

/-! ## From one phase to the next -/

omit [FloatOps F] in
/-- All sent: the phase of receiving begins. -/
theorem enter_receive (c : Dev nD) :
    iprop(XS X c 8 ∗ (bigSep Finset.univ (wPre (F := F) 1 c)) ∗ (bigSep Finset.univ (yPre (F := F) c)) ∗ bigSep Finset.univ (wPre (F := F) 3 c))
      ⊢ iprop(YS X c 0 0 0 ∗ (bigSep Finset.univ (xMid X c)) ∗ bigSep Finset.univ fun i => sndRow X c i fullShare.left) := by
  unfold XS YS
  rw [OX_none, add_zero, uptoP_all, uptoP_all, fromP_zero, fromP_zero, fromP_zero, uptoP_zero, uptoP_zero, uptoP_zero]
  iintro ⟨⟨-, Hm, Hl, HO⟩, H1, Hy, H3⟩
  isplitr [Hm Hl]
  · isplitl [H1]
    · isplitl [H1]; · iexact H1
      iempintro
    isplitl [Hy]
    · isplitl [Hy]; · iexact Hy
      iempintro
    isplitl [H3]
    · isplitl [H3]; · iexact H3
      iempintro
    iexact HO
  · isplitl [Hm] <;> iassumption

omit [FloatOps F] in
/-- All received: the last phase begins. -/
theorem enter_finish (c : Dev nD) :
    iprop(YS X c 8 8 8 ∗ (bigSep Finset.univ (xMid X c)) ∗ (bigSep Finset.univ fun i => atPos ER (cell c 0 i) 0 ∅ 0) ∗ bigSep Finset.univ fun i => atPos ER (cell c 2 i) 0 ∅ 0)
      ⊢ iprop(ES X c 0 0 ∗ (bigSep Finset.univ (wPost (F := F) 1 c)) ∗ bigSep Finset.univ (rPost X c)) := by
  have hx : iprop((bigSep Finset.univ fun i => (atPos ER (cell c 0 i) 0 ∅ 0 : sProp 𝕄)) ∗ bigSep Finset.univ (xMid X c))
      ⊢ bigSep Finset.univ fun i => iprop(wPre (F := F) 0 c i ∗ sndRest X c i fullShare.right) := by
    unfold xMid wPre
    rw [bigSep_sep', bigSep_sep', bigSep_sep']
    iintro ⟨Ha, Hr, Hc⟩
    isplitr [Hr]
    · isplitl [Ha] <;> iassumption
    iexact Hr
  have hy : iprop((bigSep Finset.univ fun i => (atPos ER (cell c 2 i) 0 ∅ 0 : sProp 𝕄)) ∗ bigSep Finset.univ (yMid (F := F) c))
      ⊢ bigSep Finset.univ (wPre (F := F) 2 c) := by
    unfold yMid wPre
    rw [bigSep_sep']
  unfold YS ES
  rw [OY_none, uptoP_all, uptoP_all, uptoP_all, fromP_zero, fromP_zero, uptoP_zero, uptoP_zero]
  iintro ⟨⟨⟨-, H1⟩, ⟨-, H2⟩, ⟨-, H3⟩, HO⟩, Hm, Ha, Hb⟩
  isplitr [H1 H3]
  · isplitl [Hm Ha]
    · isplitl
      · iapply hx
        isplitl [Ha] <;> iassumption
      iempintro
    isplitl [Hb H2]
    · isplitl
      · iapply hy
        isplitl [Hb] <;> iassumption
      iempintro
    iexact HO
  · isplitl [H1] <;> iassumption

end Cert.Exchange

end
-- ==== Proof.Buffers.lean ====
/-
# The buffers by rows and column halves, and the handshake

A device gives each neighbour, with its barrier signal, the windows of its receiving buffers that the neighbour fills; the rows
of the buffers come together again when the exchange is over.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Bool → Dev nD → Vec F S4x256x1024 .bf16)

/-! ## Whole buffers, rows, windows -/

omit [FloatOps F] in
/-- A whole buffer is its four rows. -/
theorem rows_eq (M : Memref sig .tc .vmem S4x256x1024 .bf16) (c : Dev nD) (q : PosShare TreeShare) (f : Buf (Elt F) (M.view.loc (c : Thread nD τ))) :
    (M.view.loc (c : Thread nD τ) ↦[M.view.setOn Finset.univ]{q} f : sProp 𝕄)
      = bigSep Finset.univ fun b : Fin 4 => (M.view.loc (c : Thread nD τ) ↦[M.view.setOn (rowSet b.val)]{q} f : sProp 𝕄) := by
  have h : M.view.setOn Finset.univ = (Finset.univ : Finset (Fin 4)).biUnion fun b => M.view.setOn (rowSet b.val) := by
    rw [univ_biUnion]; ext x; simp only [View.setOn, Finset.mem_map, Finset.mem_biUnion]; tauto
  rw [h]
  exact pointsTo_biUnion _ _ (fun a _ b _ hab => (Finset.disjoint_map _).mpr (rowSet_disjoint_of_ne a b hab))

omit [FloatOps F] in
theorem row_halves (M : Memref sig .tc .vmem S4x256x1024 .bf16) (c : Dev nD) (q : PosShare TreeShare) (f : Buf (Elt F) (M.view.loc (c : Thread nD τ)))
    (b y : ℕ) (hy : y < 2) :
    (M.view.loc (c : Thread nD τ) ↦[M.view.setOn (rowSet b)]{q} f : sProp 𝕄)
      ⊣⊢ iprop((M.view.loc (c : Thread nD τ) ↦[M.view.setOn (winSet b y)]{q} f) ∗ (M.view.loc (c : Thread nD τ) ↦[M.view.setOn (winSet b (1 - y))]{q} f)) := by
  rw [← winSet_union b y hy]
  have hu : M.view.setOn (winSet b y ∪ winSet b (1 - y)) = M.view.setOn (winSet b y) ∪ M.view.setOn (winSet b (1 - y)) := Finset.map_union _ _
  rw [hu]
  exact pointsTo_union ((Finset.disjoint_map _).mpr (winSet_disjoint _ _ hy))

omit [FloatOps F] in
/-- The eight transfers are the four rows of the keys and the four of the values. -/
theorem pairs (P : Bool → ℕ → sProp 𝕄) :
    (bigSep Finset.univ fun i : Fin 8 => P (ti i) (bi i)) ⊣⊢ iprop((bigSep Finset.univ fun b : Fin 4 => P false b.val) ∗ bigSep Finset.univ fun b : Fin 4 => P true b.val) := by
  rw [bigSep_univ_eq_bigSepL [0, 1, 2, 3, 4, 5, 6, 7] (by decide) (by decide), bigSep_univ_eq_bigSepL [0, 1, 2, 3] (by decide) (by decide),
    bigSep_univ_eq_bigSepL [0, 1, 2, 3] (by decide) (by decide)]
  simp only [bigSepL_cons_cons, bigSepL_singleton]
  show iprop(P false 0 ∗ P true 0 ∗ P false 1 ∗ P true 1 ∗ P false 2 ∗ P true 2 ∗ P false 3 ∗ P true 3)
    ⊣⊢ iprop((P false 0 ∗ P false 1 ∗ P false 2 ∗ P false 3) ∗ (P true 0 ∗ P true 1 ∗ P true 2 ∗ P true 3))
  refine ⟨?_, ?_⟩
  · iintro ⟨H0, H1, H2, H3, H4, H5, H6, H7⟩
    isplitl [H0 H2 H4 H6]
    · iframe
    · iframe
  · iintro ⟨⟨H0, H2, H4, H6⟩, H1, H3, H5, H7⟩
    iframe

/-- A whole buffer. -/
abbrev wholeAt (M : Memref sig .tc .vmem S4x256x1024 .bf16) (c : Dev nD) (q : PosShare TreeShare) (f : Buf (Elt F) (M.view.loc (c : Thread nD τ))) : sProp 𝕄 :=
  M.view.loc (c : Thread nD τ) ↦[M.view.setOn Finset.univ]{q} f

omit [FloatOps F] in
/-- The sending buffers are their eight rows; -/
theorem snd_rows (c : Dev nD) (q : PosShare TreeShare) :
    (bigSep Finset.univ fun i => sndRow X c i q)
      ⊣⊢ iprop(wholeAt (sndM false) c q (sndB c false (X false c)) ∗ wholeAt (sndM true) c q (sndB c true (X true c))) := by
  unfold wholeAt
  rw [rows_eq (sndM false), rows_eq (sndM true)]
  exact pairs fun t b => ((sndM t).view.loc (c : Thread nD τ) ↦[(sndM t).view.setOn (rowSet b)]{q} sndB c t (X t c))
omit [FloatOps F] in
/-- so are the receiving buffers. -/
theorem rcv_rows (c : Dev nD) (q : PosShare TreeShare) :
    (bigSep Finset.univ fun i => rcvRow X c i q)
      ⊣⊢ iprop(wholeAt (rcvM false) c q (rcvB c false (rcvX (X false) c)) ∗ wholeAt (rcvM true) c q (rcvB c true (rcvX (X true) c))) := by
  unfold wholeAt
  rw [rows_eq (rcvM false), rows_eq (rcvM true)]
  exact pairs fun t b => ((rcvM t).view.loc (c : Thread nD τ) ↦[(rcvM t).view.setOn (rowSet b)]{q} rcvB c t (rcvX (X t) c))

omit [FloatOps F] in
/-- A row by its rectangle. -/
theorem row_rect (M : Memref sig .tc .vmem S4x256x1024 .bf16) (c : Dev nD) (q : PosShare TreeShare) (f : Buf (Elt F) (M.view.loc (c : Thread nD τ))) (b : ℕ)
    (inb : ∀ a, (![b, 0, 0] : Fin 3 → ℕ) a + S1x256x1024.size a ≤ S4x256x1024.size a) :
    (M.view.loc (c : Thread nD τ) ↦[M.view.setOn (rowSet b)]{q} f : sProp 𝕄)
      = (M.view.loc (c : Thread nD τ) ↦[M.view.setOn (Rect.unit (s := S4x256x1024) ![b, 0, 0] S1x256x1024.size inb).set]{q} f) := by rw [unit_row rfl]

omit [FloatOps F] in
/-- A receiving buffer by the windows of a column half and those of the other. -/
theorem give_one (t : Bool) (c : Dev nD) (f : Buf (Elt F) ((rcvM t).view.loc (c : Thread nD τ))) :
    wholeAt (rcvM t) c fullShare f
      ⊢ iprop((bigSep Finset.univ fun b : Fin 4 => iprop(∃ f, (rcvM t).view.loc (c : Thread nD τ) ↦[(rcvM t).view.setOn (winSet b.val (yof c))]{fullShare} f))
          ∗ bigSep Finset.univ fun b : Fin 4 => iprop(∃ f, (rcvM t).view.loc (c : Thread nD τ) ↦[(rcvM t).view.setOn (winSet b.val (1 - yof c))]{fullShare} f)) := by
  unfold wholeAt
  rw [rows_eq, ← bigSep_sep']
  refine bigSep_mono fun b _ => ?_
  refine (row_halves (rcvM t) c fullShare f b.val (yof c) (yof_lt c)).1.trans ?_
  iintro ⟨H1, H2⟩
  isplitl [H1]
  · iexists f; iexact H1
  · iexists f; iexact H2

omit [FloatOps F] in
/-- What a device gives its partner and its peer. -/
theorem rcv_give (c : Dev nD) (f : Buf (Elt F) ((rcvM false).view.loc (c : Thread nD τ))) (g : Buf (Elt F) ((rcvM true).view.loc (c : Thread nD τ))) :
    iprop(wholeAt (rcvM false) c fullShare f ∗ wholeAt (rcvM true) c fullShare g)
      ⊢ iprop((bigSep Finset.univ fun i : Fin 8 => landWin (F := F) c i (yof c)) ∗ bigSep Finset.univ fun i : Fin 8 => landWin (F := F) c i (1 - yof c)) := by
  have hp := fun y : ℕ => (pairs (F := F) fun t b => iprop(∃ f, (rcvM t).view.loc (c : Thread nD τ) ↦[(rcvM t).view.setOn (winSet b y)]{fullShare} f)).2
  iintro ⟨H0, H1⟩
  ihave H0 := (give_one false c f) $$ H0
  icases H0 with ⟨Ha0, Hb0⟩
  ihave H1 := (give_one true c g) $$ H1
  icases H1 with ⟨Ha1, Hb1⟩
  isplitl [Ha0 Ha1]
  · iapply (hp (yof c))
    isplitl [Ha0] <;> iassumption
  · iapply (hp (1 - yof c))
    isplitl [Hb0] <;> iassumption

/-! ## The handshake -/

/-- The signal to the partner hands over the windows it fills, -/
theorem step_signal_partner (K : Dev nD × CK → ℕ) (c : Dev nD) {α : Type} {Q : α → sProp 𝕄} {k' : PUnit → Prog (TpuEff nD τ sig (Elt F) Λ₀ .tc) α}
    (n : Dev nD) (hn : n = partner c) (s : Sem sig) (hs : s = barS) (z : ℤ) (hz : z = ((1 : ℕ) : ℤ)) :
    iprop(records X K ∗ Ow c (O₀ c) ∗ dutyTok ER (barCell (partner c)) 0 false ∗ bigSep Finset.univ fun i : Fin 8 => landWin (F := F) c i (yof c))
      ⊢ iprop((Ow c (O₁ c) -∗ wp frame (wpE (defs₀ (F := F)) 𝒱₀ (c : Thread nD τ) none) Set.univ (k' ⟨⟩) Q) -∗ wp frame (wpE (defs₀ (F := F)) 𝒱₀ (c : Thread nD τ) none) Set.univ (.op (.semSignal (n : Thread nD τ) s z) k') Q) := by
  subst hn hs hz
  unfold Ow
  iintro ⟨#HR, ⟨%W, HO⟩, Ht, Hp⟩ Hk
  iapply (Rounds.wp_signal 𝒱₀ ER (exRd X) (c : Thread nD τ) none (dst := (partner c : Thread nD τ)) (κ := K (partner c, .inl ()))
      (d := false) (by rw [duties_bar]; exact Finset.mem_univ _) (amount_bar X (partner c) false) () (O₁ c) rfl (W := W)) $$ [HO Ht Hp]
  · isplitr; · iapply (inv_bar X K (partner c)); iexact HR
    isplitl [HO]; · iexact HO
    isplitl [Ht]; · iexact Ht
    isplitl [Hp]
    · rw [payload_bar, show barPay (F := F) (partner c) false = bigSep Finset.univ fun i : Fin 8 => landWin (F := F) c i (yof c) by
        unfold barPay; simp only [yof_partner, partner_partner]; rfl]
      iexact Hp
    iapply (reached_bar X K (partner c)); iexact HR
  iintro HO
  iapply Hk
  iexists W; iexact HO

/-- that to the peer the other half's; -/
theorem step_signal_peer (K : Dev nD × CK → ℕ) (c : Dev nD) {α : Type} {Q : α → sProp 𝕄} {k' : PUnit → Prog (TpuEff nD τ sig (Elt F) Λ₀ .tc) α}
    (n : Dev nD) (hn : n = peer c) (s : Sem sig) (hs : s = barS) (z : ℤ) (hz : z = ((1 : ℕ) : ℤ)) :
    iprop(records X K ∗ Ow c (O₁ c) ∗ dutyTok ER (barCell (peer c)) 0 true ∗ bigSep Finset.univ fun i : Fin 8 => landWin (F := F) c i (1 - yof c))
      ⊢ iprop((Ow c (OY c 0 + OX c 0) -∗ wp frame (wpE (defs₀ (F := F)) 𝒱₀ (c : Thread nD τ) none) Set.univ (k' ⟨⟩) Q) -∗ wp frame (wpE (defs₀ (F := F)) 𝒱₀ (c : Thread nD τ) none) Set.univ (.op (.semSignal (n : Thread nD τ) s z) k') Q) := by
  subst hn hs hz
  unfold Ow
  iintro ⟨#HR, ⟨%W, HO⟩, Ht, Hp⟩ Hk
  iapply (Rounds.wp_signal 𝒱₀ ER (exRd X) (c : Thread nD τ) none (dst := (peer c : Thread nD τ)) (κ := K (peer c, .inl ()))
      (d := true) (by rw [duties_bar]; exact Finset.mem_univ _) (amount_bar X (peer c) true) () (OY c 0 + OX c 0) rfl (W := W)) $$ [HO Ht Hp]
  · isplitr; · iapply (inv_bar X K (peer c)); iexact HR
    isplitl [HO]; · iexact HO
    isplitl [Ht]; · iexact Ht
    isplitl [Hp]
    · rw [payload_bar, show barPay (F := F) (peer c) true = bigSep Finset.univ fun i : Fin 8 => landWin (F := F) c i (1 - yof c) by
        unfold barPay; simp only [yof_peer, peer_peer]; rfl]
      iexact Hp
    iapply (reached_bar X K (peer c)); iexact HR
  iintro HO
  iapply Hk
  iexists W; iexact HO

/-- and the wait for both neighbours' signals brings the windows to fill on either. -/
theorem step_bar_wait (K : Dev nD × CK → ℕ) (c : Dev nD) {α : Type} {Q : α → sProp 𝕄} {k' : PUnit → Prog (TpuEff nD τ sig (Elt F) Λ₀ .tc) α}
    (s : Sem sig) (hs : s = barS) (z : ℤ) (hz : z = ((2 : ℕ) : ℤ)) :
    iprop(records X K ∗ levAts L lv ∗ Ow c (OY c 0 + OX c 0) ∗ atPos ER (barCell c) 0 ∅ 0 ∗ cred (tallyAt (barCell c) () 2)
        ∗ (bigSep Finset.univ fun i => iprop(dutyTok ER (cell c 0 i) 0 false ∗ dutyTok ER (cell (partner c) 1 i) 0 false))
        ∗ bigSep Finset.univ fun i => iprop(dutyTok ER (cell c 2 i) 0 false ∗ dutyTok ER (cell (peer c) 3 i) 0 false))
      ⊢ iprop((iprop(XS X c 0 ∗ (bigSep Finset.univ (yPre (F := F) c)) ∗ semVal (barCell c) 0) -∗ wp frame (wpE (defs₀ (F := F)) 𝒱₀ (c : Thread nD τ) none) Set.univ (k' ⟨⟩) Q)
          -∗ wp frame (wpE (defs₀ (F := F)) 𝒱₀ (c : Thread nD τ) none) Set.univ (.op (.semWait s z) k') Q) := by
  subst hs hz
  have hx : iprop((bigSep Finset.univ fun i => iprop(dutyTok ER (cell c 0 i) 0 false ∗ dutyTok ER (cell (partner c) 1 i) 0 false)) ∗ barPay (F := F) c false)
      ⊢ bigSep Finset.univ (xPre (F := F) c) := by
    have h (i : Fin 8) : iprop(iprop(dutyTok ER (cell c 0 i) 0 false ∗ dutyTok ER (cell (partner c) 1 i) 0 false) ∗ landWin (F := F) (partner c) i (yof c))
        ⊢ xPre (F := F) c i := sep_assoc.1
    unfold barPay
    rw [← bigSep_sep']
    exact bigSep_mono fun i _ => h i
  have hy : iprop((bigSep Finset.univ fun i => iprop(dutyTok ER (cell c 2 i) 0 false ∗ dutyTok ER (cell (peer c) 3 i) 0 false)) ∗ barPay (F := F) c true)
      ⊢ bigSep Finset.univ (yPre (F := F) c) := by
    have h (i : Fin 8) : iprop(iprop(dutyTok ER (cell c 2 i) 0 false ∗ dutyTok ER (cell (peer c) 3 i) 0 false) ∗ landWin (F := F) (peer c) i (yof c))
        ⊢ yPre (F := F) c i := sep_assoc.1
    unfold barPay
    rw [← bigSep_sep']
    exact bigSep_mono fun i _ => h i
  unfold XS Ow
  rw [fromP_zero, uptoP_zero, uptoP_zero]
  iintro ⟨#HR, #Hlev, ⟨%W, HO⟩, Hat, Hcr, Hx, Hy⟩ Hk
  ihave #HI := (inv_bar X K c) $$ HR
  iapply (Rounds.wp_wait_rest_token 𝒱₀ ER (exRd X) (c : Thread nD τ) none (κ := K (c, .inl ()))
      (wpE_semWait_eq 𝒱₀ (c : Thread nD τ) none Set.univ) (Set.mem_univ _) () (O := OY c 0 + OX c 0) (W := W) (R := 0) (m := 0) (T := ∅)
      (by rw [expect_bar])) $$ [Hcr HO Hat]
  · isplitr; · iexact HI
    isplitl [Hcr]; · iexact Hcr
    isplitl [HO]; · iexact HO
    isplitr; · iapply (mayWait_bar c); iexact Hlev
    iexact Hat
  rw [rest_bar]
  iintro ⟨HO, Hat, -, ⟨Hpx, Hpy⟩⟩
  imod (Rounds.cell_close ER (exRd X) (Set.mem_univ _) (fun h => h) (R := 0 + 1) (duties_later X (barCell c))) $$ [Hat] with HS
  · isplitr; · iexact HI
    iexact Hat
  iapply Hk
  isplitl [Hx Hpx HO]
  · isplitl [Hx Hpx]
    · iapply hx; isplitl [Hx] <;> iassumption
    isplitr; · iempintro
    isplitr; · iempintro
    iexists _; iexact HO
  isplitl [Hy Hpy]
  · iapply hy; isplitl [Hy] <;> iassumption
  iexact HS

end Cert.Exchange

end
-- ==== Proof.Output.lean ====
/-
# The kernel's output

Head `h` of batch `b` is one function of the head's queries, the device's own keys and values and the received ones
(`headAt`), stored to columns `64 h … 64 h + 63` of row `b`. The 64 stores tile the output, which is therefore one
function of the five blocks (`outV`).
-/
module

public import proofs.«01_k».proof.Proof.Buffers
public import Idealize.ShloMosaic.Lib.Ring

@[expose] public section

noncomputable section

namespace Cert.Exchange

open Cert.KernelIdeal Cert.KernelIdeal.Gen

open Idealize.ShloMosaic
open Idealize.ShloMosaic.TcCoe

variable {F : FTy → Type} [FloatOps F]

/-- The part of a block that a head of a batch uses. -/
def cutAt {T : Type} (off : Fin 3 → ℕ) (inb : ∀ a, off a + S1x256x64.size a ≤ S4x256x1024.size a) (f : S4x256x1024.Idx → T) (j : S1x256x64.Idx) : T :=
  f ((Rect.unit (s := S4x256x1024) off S1x256x64.size inb).emb j)

/-- One head of one batch: the queries against the own keys and values and against the received ones. -/
def headAt (off : Fin 3 → ℕ) (inb : ∀ a, off a + S1x256x64.size a ≤ S4x256x1024.size a) (q k v kr vr : Vec F S4x256x1024 .bf16) : Vec F S1x256x64 .f32 :=
  k0_pay28 (cutAt off inb q) (cutAt off inb k) (cutAt off inb v) (cutAt off inb kr) (cutAt off inb vr)

/-- The offsets of the head an output element belongs to, -/
def headOff (x : S4x256x1024.Idx) : Fin 3 → ℕ := ![(x 0).val, 0, 64 * ((x 2).val / 64)]
theorem headOff_inb (x : S4x256x1024.Idx) : ∀ a, headOff x a + S1x256x64.size a ≤ S4x256x1024.size a := by
  have h0 := lt_axis0 x
  have h2 := lt_axis2 x
  rw [Fin.forall_fin_succ, Fin.forall_fin_succ, Fin.forall_fin_one]
  show (x 0).val + 1 ≤ 4 ∧ 0 + 256 ≤ 256 ∧ 64 * ((x 2).val / 64) + 64 ≤ 1024
  omega
/-- and its place there. -/
def headPos (x : S4x256x1024.Idx) : S1x256x64.Idx := fun a => match a with
  | ⟨0, _⟩ => (⟨0, by decide⟩ : Fin 1)
  | ⟨1, _⟩ => (⟨(x 1).val, lt_axis1 x⟩ : Fin 256)
  | ⟨2, _⟩ => (⟨(x 2).val % 64, Nat.mod_lt _ (by decide)⟩ : Fin 64)

/-- The output, from the device's queries, keys and values and the received keys and values. -/
def outV (q k v kr vr : Vec F S4x256x1024 .bf16) : Vec F S4x256x1024 .f32 := fun x => headAt (headOff x) (headOff_inb x) q k v kr vr (headPos x)

theorem headAt_congr {off off' : Fin 3 → ℕ} (inb) (inb') (h : off = off') (q k v kr vr : Vec F S4x256x1024 .bf16) :
    headAt off inb q k v kr vr = headAt off' inb' q k v kr vr := by subst h; rfl

/-- The output at an element of a head's part. -/
theorem outV_emb (b e : ℕ) (he : 64 ∣ e) (inb : ∀ a, (![b, 0, e] : Fin 3 → ℕ) a + S1x256x64.size a ≤ S4x256x1024.size a) (q k v kr vr : Vec F S4x256x1024 .bf16)
    (j : S1x256x64.Idx) :
    outV q k v kr vr ((Rect.unit (s := S4x256x1024) ![b, 0, e] S1x256x64.size inb).emb j) = headAt ![b, 0, e] inb q k v kr vr j := by
  have h0 : (j 0).val = 0 := Nat.lt_one_iff.1 (j 0).isLt
  have h2 : (j 2).val < 64 := (j 2).isLt
  have e0 : (((Rect.unit (s := S4x256x1024) ![b, 0, e] S1x256x64.size inb).emb j) 0).val = b + 1 * (j 0).val := rfl
  have e1 : (((Rect.unit (s := S4x256x1024) ![b, 0, e] S1x256x64.size inb).emb j) 1).val = 0 + 1 * (j 1).val := rfl
  have e2 : (((Rect.unit (s := S4x256x1024) ![b, 0, e] S1x256x64.size inb).emb j) 2).val = e + 1 * (j 2).val := rfl
  obtain ⟨h, rfl⟩ := he
  have hoff : headOff ((Rect.unit (s := S4x256x1024) ![b, 0, 64 * h] S1x256x64.size inb).emb j) = ![b, 0, 64 * h] := by
    unfold headOff
    rw [e0, e2, h0, show (64 * h + 1 * (j 2).val) / 64 = h by omega]
    rfl
  have hpos : headPos ((Rect.unit (s := S4x256x1024) ![b, 0, 64 * h] S1x256x64.size inb).emb j) = j := by
    funext a
    fin_cases a
    · exact Fin.ext h0.symm
    · exact Fin.ext (by show (((Rect.unit (s := S4x256x1024) ![b, 0, 64 * h] S1x256x64.size inb).emb j) 1).val = _; rw [e1]; show 0 + 1 * (j 1).val = (j 1).val; omega)
    · exact Fin.ext (by show (((Rect.unit (s := S4x256x1024) ![b, 0, 64 * h] S1x256x64.size inb).emb j) 2).val % 64 = _; rw [e2]; show (64 * h + 1 * (j 2).val) % 64 = (j 2).val; omega)
  unfold outV
  rw [hpos, headAt_congr _ inb hoff]

/-! ## The stores -/

/-- Stores that each hold the output's elements of their place. -/
def Good (q k v kr vr : Vec F S4x256x1024 .bf16) (L : List (View.Piece (Elt F) S4x256x1024 .f32)) : Prop :=
  ∀ p ∈ L, ∀ x : p.1.shape.Idx, p.2 x = outV q k v kr vr (p.1.emb x)

variable {q k v kr vr : Vec F S4x256x1024 .bf16}

theorem good_nil : Good q k v kr vr [] := fun _ h => absurd h List.not_mem_nil

theorem good_cons {b e : ℕ} (he : 64 ∣ e) {inb : ∀ a, (![b, 0, e] : Fin 3 → ℕ) a + S1x256x64.size a ≤ S4x256x1024.size a}
    {w : (Rect.unit (s := S4x256x1024) ![b, 0, e] S1x256x64.size inb).shape.Idx → Elt F .f32} {L : List (View.Piece (Elt F) S4x256x1024 .f32)}
    (hw : w = headAt ![b, 0, e] inb q k v kr vr) (hL : Good q k v kr vr L) :
    Good q k v kr vr (⟨Rect.unit (s := S4x256x1024) ![b, 0, e] S1x256x64.size inb, w⟩ :: L) := by
  intro p hp
  rcases List.mem_cons.1 hp with rfl | h
  · intro x
    rw [outV_emb b e he inb, hw]
  · exact hL p h

/-- Such stores leave the output wherever one of them falls. -/
theorem read_good {κ : Kind} {sp : Space} (w : View sig κ sp S4x256x1024 .f32) (f : w.ty.Contents (Elt F)) (y : S4x256x1024.Idx) :
    ∀ L : List (View.Piece (Elt F) S4x256x1024 .f32), Good q k v kr vr L → (∃ p ∈ L, y ∈ p.1.set) →
      w.read (Elt F) (w.writes (Elt F) f L) y = outV q k v kr vr y
  | [], _, h => by obtain ⟨_, hm, _⟩ := h; exact absurd hm List.not_mem_nil
  | p :: L, hG, h => by
    by_cases hy : y ∈ p.1.set
    · obtain ⟨x, rfl⟩ : ∃ x, p.1.emb x = y := p.1.exists_idx_of_mem hy
      rw [View.read_writes_cons_emb]
      exact hG p List.mem_cons_self x
    · have hy' : y ∉ Finset.univ.map p.1.emb := by rwa [Rect.map_emb_univ]
      rw [View.writes_cons, View.read_slice_write_of_not_mem p.1 _ _ _ hy']
      refine read_good w f y L (fun p hp => hG p (List.mem_cons_of_mem _ hp)) ?_
      obtain ⟨p', hp', hyp⟩ := h
      rcases List.mem_cons.mp hp' with rfl | hq
      · exact absurd hyp hy
      · exact ⟨p', hq, hyp⟩

/-- The output's buffer after stores that tile it. -/
theorem writes_good (f : Vec F S4x256x1024 .f32) (L : List (View.Piece (Elt F) S4x256x1024 .f32)) (hG : Good q k v kr vr L)
    (hc : View.Piece.tiledL L S1x256x64.size = true) :
    (Memref.whole cc0_stg3_0 : Memref sig .tc .vmem S4x256x1024 .f32).view.writes (Elt F) f L = outV q k v kr vr :=
  funext fun y => read_good (Memref.whole cc0_stg3_0 : Memref sig .tc .vmem S4x256x1024 .f32).view f y L hG (View.cover_of_tiledL L _ hc y)

end Cert.Exchange

end
-- ==== Proof.Body.lean ====
/-
# The kernel's body
-/
module

public import proofs.«01_k».proof.Proof.Output
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Bool → Dev nD → Vec F S4x256x1024 .bf16)

/-- A buffer held whole, by its name. -/
abbrev buf (b : Ref sig .tc) (c : Dev nD) (q : PosShare TreeShare) (f : Buf (Elt F) ((c : Thread nD τ).loc b)) : sProp 𝕄 :=
  (Memref.whole b).view.loc (c : Thread nD τ) ↦{q} f

/-- The kernel's body on the launch's buffers. -/
abbrev body : Prog (TpuEff nD τ sig (Elt F) Λ₀ .tc) PUnit :=
  cc0__fused_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

/-- What a device's protocol starts from. -/
def Start (c : Dev nD) : sProp 𝕄 :=
  iprop((dutyTok ER (barCell (partner c)) 0 false ∗ dutyTok ER (barCell (peer c)) 0 true)
    ∗ (atPos ER (barCell c) 0 ∅ 0 ∗ cred (tallyAt (barCell c) () 2))
    ∗ (bigSep Finset.univ fun i => iprop(dutyTok ER (cell c 0 i) 0 false ∗ dutyTok ER (cell (partner c) 1 i) 0 false))
    ∗ (bigSep Finset.univ fun i => iprop(dutyTok ER (cell c 2 i) 0 false ∗ dutyTok ER (cell (peer c) 3 i) 0 false))
    ∗ (bigSep Finset.univ fun i => atPos ER (cell c 0 i) 0 ∅ 0) ∗ (bigSep Finset.univ (wPre (F := F) 1 c))
    ∗ (bigSep Finset.univ fun i => atPos ER (cell c 2 i) 0 ∅ 0) ∗ (bigSep Finset.univ (wPre (F := F) 3 c)))

omit [FloatOps F] in
/-- A sending buffer of any contents by its four rows, each by its rectangle. -/
theorem rows_split (M : Memref sig .tc .vmem S4x256x1024 .bf16) (c : Dev nD) (q : PosShare TreeShare) (f : Buf (Elt F) (M.view.loc (c : Thread nD τ))) :
    wholeAt M c q f
      ⊢ iprop((M.view.loc (c : Thread nD τ) ↦[M.view.setOn (Rect.unit (s := S4x256x1024) ![0, 0, 0] S1x256x1024.size inb_S4x256x1024_S1x256x1024_0_0_0).set]{q} f)
        ∗ (M.view.loc (c : Thread nD τ) ↦[M.view.setOn (Rect.unit (s := S4x256x1024) ![1, 0, 0] S1x256x1024.size inb_S4x256x1024_S1x256x1024_1_0_0).set]{q} f)
        ∗ (M.view.loc (c : Thread nD τ) ↦[M.view.setOn (Rect.unit (s := S4x256x1024) ![2, 0, 0] S1x256x1024.size inb_S4x256x1024_S1x256x1024_2_0_0).set]{q} f)
        ∗ (M.view.loc (c : Thread nD τ) ↦[M.view.setOn (Rect.unit (s := S4x256x1024) ![3, 0, 0] S1x256x1024.size inb_S4x256x1024_S1x256x1024_3_0_0).set]{q} f)) := by
  unfold wholeAt
  rw [rows_eq, bigSep_univ_eq_bigSepL [0, 1, 2, 3] (by decide) (by decide)]
  simp only [bigSepL_cons_cons, bigSepL_singleton]
  rw [← row_rect, ← row_rect, ← row_rect, ← row_rect]
  exact BI.Entails.refl _

omit [FloatOps F] in
theorem buf_whole (b : Ref sig .tc) (c : Dev nD) (q : PosShare TreeShare) (f : Buf (Elt F) ((c : Thread nD τ).loc b)) :
    (buf b c q f : sProp 𝕄) = ((Memref.whole b).view.loc (c : Thread nD τ) ↦[(Memref.whole b).view.setOn Finset.univ]{q} f) := by
  have h : (Memref.whole b).view.setOn Finset.univ = Finset.univ := by rw [View.setOn_univ]; exact View.set_whole b
  rw [h]

omit [FloatOps F] in
/-- The sending buffers, whole, by their names; -/
theorem snd_whole (c : Dev nD) (q : PosShare TreeShare) :
    (bigSep Finset.univ fun i => sndRow X c i q) ⊣⊢ iprop(buf cc0_scratch0 c q (X false c) ∗ buf cc0_scratch1 c q (X true c)) := by
  rw [buf_whole cc0_scratch0, buf_whole cc0_scratch1]
  exact snd_rows X c q

omit [FloatOps F] in
/-- so the receiving buffers. -/
theorem rcv_whole (c : Dev nD) (q : PosShare TreeShare) :
    (bigSep Finset.univ fun i => rcvRow X c i q) ⊣⊢ iprop(buf cc0_scratch2 c q (rcvX (X false) c) ∗ buf cc0_scratch3 c q (rcvX (X true) c)) := by
  rw [buf_whole cc0_scratch2, buf_whole cc0_scratch3]
  exact rcv_rows X c q

omit [FloatOps F] in
/-- A block's rectangle written to a sending buffer holds the block's elements there. -/
theorem write_snd (c : Dev nD) (t : Bool) (R : Rect S4x256x1024) (f : Buf (Elt F) ((sndM t).view.loc (c : Thread nD τ))) (v : Vec F S4x256x1024 .bf16)
    (j : R.shape.Idx) :
    (sndM t).view.writes (Elt F) f [⟨R, fun j => v (R.emb j)⟩] ((sndM t).view.emb (R.emb j)) = sndB c t v ((sndM t).view.emb (R.emb j)) := by
  cases t
  · exact View.write_emb_of_mem (v := (sndM false).view.slice R) f (fun j => v (R.emb j)) (Finset.mem_univ j)
  · exact View.write_emb_of_mem (v := (sndM true).view.slice R) f (fun j => v (R.emb j)) (Finset.mem_univ j)

/-- A row of the keys or values just stored, as loaded from its block, is the row to send. -/
theorem row_stored (c : Dev nD) (i : Fin 8) (t : Bool) (ht : t = ti i) (b : ℕ) (hb : b = bi i)
    (inb : ∀ a, (![b, 0, 0] : Fin 3 → ℕ) a + S1x256x1024.size a ≤ S4x256x1024.size a) (f : Buf (Elt F) ((sndM t).view.loc (c : Thread nD τ)))
    (pay : (Rect.unit (s := S4x256x1024) ![b, 0, 0] S1x256x1024.size inb).shape.Idx → F .bf16)
    (hp : pay = shapeCast S1x256x1024 (shapeCast S256x1024 (fun j : S1x256x1024.Idx => X t c ((Rect.unit (s := S4x256x1024) ![b, 0, 0] S1x256x1024.size inb).emb j)) shapeCasts_S1x256x1024_S256x1024)
      shapeCasts_S256x1024_S1x256x1024) :
    ((sndM t).view.loc (c : Thread nD τ) ↦[(sndM t).view.setOn (Rect.unit (s := S4x256x1024) ![b, 0, 0] S1x256x1024.size inb).set]{fullShare}
        (sndM t).view.writes (Elt F) f [⟨Rect.unit (s := S4x256x1024) ![b, 0, 0] S1x256x1024.size inb, pay⟩])
      ⊢ sndRow X c i fullShare := by
  subst ht hb hp
  unfold sndRow
  rw [row_rect (sndM (ti i)) c fullShare _ (bi i) inb]
  refine Entails.of_eq (pointsTo_congr fun x hx => ?_)
  obtain ⟨y, hy, rfl⟩ := Finset.mem_map.1 hx
  obtain ⟨j, rfl⟩ := (Rect.unit (s := S4x256x1024) ![bi i, 0, 0] S1x256x1024.size inb).exists_idx_of_mem hy
  rw [shapeCast_shapeCast]
  exact write_snd c (ti i) _ f (X (ti i) c) j

omit [FloatOps F] in
/-- A received row by its rectangle. -/
theorem rcv_by_rect (c : Dev nD) (i : Fin 8) (t : Bool) (ht : t = ti i) (b : ℕ) (hb : b = bi i)
    (inb : ∀ a, (![b, 0, 0] : Fin 3 → ℕ) a + S1x256x1024.size a ≤ S4x256x1024.size a) (q : PosShare TreeShare) :
    rcvRow X c i q ⊣⊢ ((rcvM t).view.loc (c : Thread nD τ)
      ↦[(rcvM t).view.setOn (Rect.unit (s := S4x256x1024) ![b, 0, 0] S1x256x1024.size inb).set]{q} rcvB c t (rcvX (X t) c)) := by
  subst ht hb
  unfold rcvRow
  rw [row_rect (rcvM (ti i)) c q _ (bi i) inb]

/-- Transfer `k` to the partner, its row just stored. -/
theorem step_store_send (K : Dev nD × CK → ℕ) (c : Dev nD) {α : Type} {Q : α → sProp 𝕄} {k' : PUnit → Prog (TpuEff nD τ sig (Elt F) Λ₀ .tc) α}
    {off : Fin 3 → ℕ} {inb : ∀ a, off a + S1x256x512.size a ≤ S4x256x1024.size a}
    (k : ℕ) (hk : k < 8) (t : Bool) (ht : t = ti ⟨k, hk⟩) (n : Dev nD) (hn : n = partner c) (b : ℕ) (hb : b = bi ⟨k, hk⟩) (hoff : off = ![b, 0, 512 * yof c])
    (s₁ s₂ : DmaSem sig) (h₁ : s₁ = fsem 0 ⟨k, hk⟩) (h₂ : s₂ = fsem 1 ⟨k, hk⟩)
    (inr : ∀ a, (![b, 0, 0] : Fin 3 → ℕ) a + S1x256x1024.size a ≤ S4x256x1024.size a) {f : Buf (Elt F) ((sndM t).view.loc (c : Thread nD τ))}
    {pay : (Rect.unit (s := S4x256x1024) ![b, 0, 0] S1x256x1024.size inr).shape.Idx → F .bf16}
    (hp : pay = shapeCast S1x256x1024 (shapeCast S256x1024 (fun j : S1x256x1024.Idx => X t c ((Rect.unit (s := S4x256x1024) ![b, 0, 0] S1x256x1024.size inr).emb j)) shapeCasts_S1x256x1024_S256x1024)
      shapeCasts_S256x1024_S1x256x1024)
    {hsc : (winM (rcvM t) inb : Memref sig (Dev.tc n : Thread nD τ).2.kind .vmem S256x512 .bf16).view.ref.isScScratch = false}
    {hsrc : (winM (sndM t) inb).view.WordExact} {hdst : (winM (rcvM t) inb).view.WordExact}
    {hsem : DmaTarget.Typed .vmem (.dma s₂) (.remote (Dev.tc n : Thread nD τ) (winM (rcvM t) inb) (.dma s₁) hsc)} :
    iprop(records X K ∗ XS X c k
        ∗ (sndM t).view.loc (c : Thread nD τ) ↦[(sndM t).view.setOn (Rect.unit (s := S4x256x1024) ![b, 0, 0] S1x256x1024.size inr).set]{fullShare}
          (sndM t).view.writes (Elt F) f [⟨Rect.unit (s := S4x256x1024) ![b, 0, 0] S1x256x1024.size inr, pay⟩])
      ⊢ iprop((XS X c (k + 1) -∗ wp frame (wpE (defs₀ (F := F)) 𝒱₀ (c : Thread nD τ) none) Set.univ (k' ⟨⟩) Q)
          -∗ wp frame (wpE (defs₀ (F := F)) 𝒱₀ (c : Thread nD τ) none) Set.univ
            (.op (.enqueueDma (winM (sndM t) inb) (.remote (Dev.tc n : Thread nD τ) (winM (rcvM t) inb) (.dma s₁) hsc) (.dma s₂) hsrc hdst hsem) k') Q) := by
  iintro ⟨#HR, HX, Hrow⟩ Hk
  iapply (step_xsend X K c k hk t ht n hn (hoff.trans (by rw [hb])) s₁ s₂ h₁ h₂) $$ [HX Hrow]
  · isplitr; · iexact HR
    isplitl [HX]; · iexact HX
    iapply (row_stored X c ⟨k, hk⟩ t ht b hb inr _ _ hp)
    iexact Hrow
  iexact Hk

/-- The device's own transfers' semaphores, at zero. -/
def ownZero (c : Dev nD) : sProp 𝕄 := bigSep Finset.univ fun p : Fin 4 × Fin 8 => semVal (cell c p.1 p.2) 0

omit [FloatOps F] in
theorem own_zero (c : Dev nD) :
    iprop((bigSep Finset.univ fun i => semVal (cell c 0 i) 0) ∗ (bigSep Finset.univ fun i => semVal (cell c 1 i) 0)
      ∗ (bigSep Finset.univ fun i => semVal (cell c 2 i) 0) ∗ (bigSep Finset.univ fun i => semVal (cell c 3 i) 0)) ⊢ ownZero (F := F) c := by
  unfold ownZero
  rw [bigSep_univ_prod, bigSep_univ_eq_bigSepL [(0 : Fin 4), 1, 2, 3] (by decide) (by decide)]
  exact BI.Entails.refl _

omit [FloatOps F] in
theorem snd_mend (c : Dev nD) :
    iprop((bigSep Finset.univ fun i => sndRow X c i fullShare.left) ∗ bigSep Finset.univ fun i => sndRow X c i fullShare.right)
      ⊢ bigSep Finset.univ fun i => sndRow X c i fullShare := by
  have h (i : Fin 8) : iprop(sndRow X c i fullShare.left ∗ sndRow X c i fullShare.right) ⊢ sndRow X c i fullShare := (snd_share X c i).2
  rw [← bigSep_sep']
  exact bigSep_mono fun i _ => h i

omit [FloatOps F] in
theorem rcv_mend (c : Dev nD) :
    iprop((bigSep Finset.univ fun i => rcvRow X c i fullShare.left) ∗ (bigSep Finset.univ fun i => rcvWin X c i (yof c) fullShare.right)
        ∗ bigSep Finset.univ fun i => rcvWin X c i (1 - yof c) fullShare.right)
      ⊢ bigSep Finset.univ fun i => rcvRow X c i fullShare := by
  have h (i : Fin 8) : iprop(rcvRow X c i fullShare.left ∗ rcvWin X c i (yof c) fullShare.right ∗ rcvWin X c i (1 - yof c) fullShare.right) ⊢ rcvRow X c i fullShare := by
    iintro ⟨HL, H1, H2⟩
    ihave HR := (rcv_join X c i fullShare.right).2 $$ [H1 H2]
    · isplitl [H1] <;> iassumption
    unfold rcvRow
    iapply (pointsTo_share (PosShare.mem_left_op_right fullShare)).2
    isplitl [HL] <;> iassumption
  rw [← bigSep_sep', ← bigSep_sep']
  exact bigSep_mono fun i _ => h i

omit [FloatOps F] in
/-- The exchange over, the buffers are whole again and the semaphores at zero. -/
theorem leave (c : Dev nD) :
    iprop(ES X c 8 8 ∗ (bigSep Finset.univ fun i => rcvRow X c i fullShare.left) ∗ (bigSep Finset.univ (wPost (F := F) 1 c)) ∗ (bigSep Finset.univ (rPost X c))
        ∗ buf cc0_scratch0 c fullShare.left (X false c) ∗ buf cc0_scratch1 c fullShare.left (X true c))
      ⊢ iprop(Ow c 0 ∗ (buf cc0_scratch0 c fullShare (X false c) ∗ buf cc0_scratch1 c fullShare (X true c)
        ∗ buf cc0_scratch2 c fullShare (rcvX (X false) c) ∗ buf cc0_scratch3 c fullShare (rcvX (X true) c)) ∗ ownZero (F := F) c) := by
  unfold ES
  rw [uptoP_all, uptoP_all]
  unfold xPost yPost rPost wPost
  rw [bigSep_sep', bigSep_sep', bigSep_sep']
  iintro ⟨⟨⟨-, Hz0, Hsr⟩, ⟨-, Hz2, Hra⟩, HO⟩, Hl, Hz1, ⟨Hz3, Hrb⟩, Hs⟩
  isplitl [HO]; · iexact HO
  isplitr [Hz0 Hz1 Hz2 Hz3]
  · ihave Hs := (snd_whole X c fullShare.left).2 $$ Hs
    ihave Hs := (snd_mend X c) $$ [Hs Hsr]
    · isplitl [Hs] <;> iassumption
    ihave Hr := (rcv_mend X c) $$ [Hl Hra Hrb]
    · isplitl [Hl]; · iexact Hl
      isplitl [Hra] <;> iassumption
    ihave Hs := (snd_whole X c fullShare).1 $$ Hs
    ihave Hr := (rcv_whole X c fullShare).1 $$ Hr
    icases Hs with ⟨Hs0, Hs1⟩
    icases Hr with ⟨Hr0, Hr1⟩
    isplitl [Hs0]; · iexact Hs0
    isplitl [Hs1]; · iexact Hs1
    isplitl [Hr0] <;> iassumption
  · iapply (own_zero c)
    isplitl [Hz0]; · iexact Hz0
    isplitl [Hz1]; · iexact Hz1
    isplitl [Hz2] <;> iassumption

/-- The eight received rows, one by one. -/
theorem rows_eight (P : Fin 8 → sProp 𝕄) :
    iprop(P 0 ∗ P 1 ∗ P 2 ∗ P 3 ∗ P 4 ∗ P 5 ∗ P 6 ∗ P 7) ⊢ bigSep Finset.univ P := by
  rw [bigSep_univ_eq_bigSepL [0, 1, 2, 3, 4, 5, 6, 7] (by decide) (by decide)]
  exact BI.Entails.refl _

/-- The output stored. -/
theorem out_stored (c : Dev nD) {q k v kr vr : Vec F S4x256x1024 .bf16} (f : Vec F S4x256x1024 .f32) (L : List (View.Piece (Elt F) S4x256x1024 .f32))
    (hG : Good q k v kr vr L) (hc : View.Piece.tiledL L S1x256x64.size = true) :
    ((Memref.whole cc0_stg3_0 : Memref sig .tc .vmem S4x256x1024 .f32).view.loc (c : Thread nD τ) ↦{fullShare}
        (Memref.whole cc0_stg3_0 : Memref sig .tc .vmem S4x256x1024 .f32).view.writes (Elt F) f L)
      ⊢ buf cc0_stg3_0 c fullShare (outV q k v kr vr) := by
  rw [writes_good f L hG hc]

/-- What the body leaves. -/
def Done (c : Dev nD) (q : Vec F S4x256x1024 .bf16) : sProp 𝕄 :=
  iprop(Ow c 0
    ∗ (buf cc0_stg0_0 c fullShare q ∗ buf cc0_stg1_0 c fullShare (X false c) ∗ buf cc0_stg2_0 c fullShare (X true c)
      ∗ buf cc0_stg3_0 c fullShare (outV q (X false c) (X true c) (rcvX (X false) c) (rcvX (X true) c)))
    ∗ (buf cc0_scratch0 c fullShare (X false c) ∗ buf cc0_scratch1 c fullShare (X true c)
      ∗ buf cc0_scratch2 c fullShare (rcvX (X false) c) ∗ buf cc0_scratch3 c fullShare (rcvX (X true) c))
    ∗ ownZero (F := F) c ∗ semVal (barCell c) 0)

set_option maxHeartbeats 8000000 in
/-- The kernel's body, one step after another. -/
theorem sound (K : Dev nD × CK → ℕ) (c : Dev nD) (q : Vec F S4x256x1024 .bf16) (o : Vec F S4x256x1024 .f32) (f0 f1 f2 f3 : Vec F S4x256x1024 .bf16) (Q : PUnit → sProp 𝕄) :
    iprop((records X K ∗ levAts L lv ∗ Ow c (O₀ c) ∗ Start (F := F) c
      ∗ buf cc0_stg0_0 c fullShare q ∗ buf cc0_stg1_0 c fullShare (X false c) ∗ buf cc0_stg2_0 c fullShare (X true c) ∗ buf cc0_stg3_0 c fullShare o
      ∗ buf cc0_scratch0 c fullShare f0 ∗ buf cc0_scratch1 c fullShare f1 ∗ buf cc0_scratch2 c fullShare f2 ∗ buf cc0_scratch3 c fullShare f3)
      ∗ (Done X c q -∗ Q ⟨⟩))
    ⊢ wp frame (wpE (defs₀ (F := F)) 𝒱₀ (c : Thread nD τ) none) Set.univ (body (F := F)) Q := by
  unfold body
  rw [cc0__fused_body_eq_skeleton]; unfold cc0__fused_body_skel
  rw [k0_part78_eq_skeleton, k0_part79_eq_skeleton]; unfold k0_part78_skel
  rw [buf_whole cc0_scratch0, buf_whole cc0_scratch1, buf_whole cc0_scratch2, buf_whole cc0_scratch3]
  unfold Start
  iintro ⟨⟨#HR, #Hlev, HO, ⟨⟨Htp, Htq⟩, ⟨Hat, Hcr⟩, Htx, Hty, Ha0, H1, Ha2, H3⟩, Hq, Hk, Hv, Ho, Hs0, Hs1, Hs2, Hs3⟩, HQ⟩
  ihave Hg := (rcv_give c f2 f3) $$ [Hs2 Hs3]
  · isplitl [Hs2] <;> iassumption
  icases Hg with ⟨Hgp, Hgq⟩
  ihave Hs0 := (rows_split (sndM false) c fullShare f0) $$ Hs0
  icases Hs0 with ⟨Hk0, Hk1, Hk2, Hk3⟩
  ihave Hs1 := (rows_split (sndM true) c fullShare f1) $$ Hs1
  icases Hs1 with ⟨Hv0, Hv1, Hv2, Hv3⟩
  sl_exec
  iapply (step_signal_partner X K c _ (eq_partner c _ (k0_dev1_eq c)) _ rfl _ rfl) $$ [HO Htp Hgp]
  · isplitr; · iexact HR
    isplitl [HO]; · iexact HO
    isplitl [Htp] <;> iassumption
  iintro HO
  sl_exec
  iapply (step_signal_peer X K c _ (eq_peer c _ (k0_dev2_eq c)) _ rfl _ rfl) $$ [HO Htq Hgq]
  · isplitr; · iexact HR
    isplitl [HO]; · iexact HO
    isplitl [Htq] <;> iassumption
  iintro HO
  sl_exec
  iapply (step_bar_wait X K c _ rfl _ rfl) $$ [HO Hat Hcr Htx Hty]
  · isplitr; · iexact HR
    isplitr; · iexact Hlev
    isplitl [HO]; · iexact HO
    isplitl [Hat]; · iexact Hat
    isplitl [Hcr]; · iexact Hcr
    isplitl [Htx] <;> iassumption
  iintro ⟨HX, Hy, Hbar⟩
  sl_exec
  iapply (step_store_send X K c 0 (by decide) false rfl _ (eq_partner c _ (k0_dev3_eq c)) 0 rfl (k0_off1_eq c) _ _ rfl rfl inb_S4x256x1024_S1x256x1024_0_0_0 rfl) $$ [HX Hk0]
  · isplitr; · iexact HR
    isplitl [HX]; · iexact HX
    iexact Hk0
  iintro HX
  sl_exec
  iapply (step_store_send X K c 1 (by decide) true rfl _ (eq_partner c _ (k0_dev4_eq c)) 0 rfl (k0_off1_eq c) _ _ rfl rfl inb_S4x256x1024_S1x256x1024_0_0_0 rfl) $$ [HX Hv0]
  · isplitr; · iexact HR
    isplitl [HX]; · iexact HX
    iexact Hv0
  iintro HX
  sl_exec
  iapply (step_store_send X K c 2 (by decide) false rfl _ (eq_partner c _ (k0_dev5_eq c)) 1 rfl (k0_off2_eq c) _ _ rfl rfl inb_S4x256x1024_S1x256x1024_1_0_0 rfl) $$ [HX Hk1]
  · isplitr; · iexact HR
    isplitl [HX]; · iexact HX
    iexact Hk1
  iintro HX
  sl_exec
  iapply (step_store_send X K c 3 (by decide) true rfl _ (eq_partner c _ (k0_dev6_eq c)) 1 rfl (k0_off2_eq c) _ _ rfl rfl inb_S4x256x1024_S1x256x1024_1_0_0 rfl) $$ [HX Hv1]
  · isplitr; · iexact HR
    isplitl [HX]; · iexact HX
    iexact Hv1
  iintro HX
  sl_exec
  iapply (step_store_send X K c 4 (by decide) false rfl _ (eq_partner c _ (k0_dev7_eq c)) 2 rfl (k0_off3_eq c) _ _ rfl rfl inb_S4x256x1024_S1x256x1024_2_0_0 rfl) $$ [HX Hk2]
  · isplitr; · iexact HR
    isplitl [HX]; · iexact HX
    iexact Hk2
  iintro HX
  sl_exec
  iapply (step_store_send X K c 5 (by decide) true rfl _ (eq_partner c _ (k0_dev8_eq c)) 2 rfl (k0_off3_eq c) _ _ rfl rfl inb_S4x256x1024_S1x256x1024_2_0_0 rfl) $$ [HX Hv2]
  · isplitr; · iexact HR
    isplitl [HX]; · iexact HX
    iexact Hv2
  iintro HX
  sl_exec
  iapply (step_store_send X K c 6 (by decide) false rfl _ (eq_partner c _ (k0_dev9_eq c)) 3 rfl (k0_off4_eq c) _ _ rfl rfl inb_S4x256x1024_S1x256x1024_3_0_0 rfl) $$ [HX Hk3]
  · isplitr; · iexact HR
    isplitl [HX]; · iexact HX
    iexact Hk3
  iintro HX
  sl_exec
  iapply (step_store_send X K c 7 (by decide) true rfl _ (eq_partner c _ (k0_dev10_eq c)) 3 rfl (k0_off4_eq c) _ _ rfl rfl inb_S4x256x1024_S1x256x1024_3_0_0 rfl) $$ [HX Hv3]
  · isplitr; · iexact HR
    isplitl [HX]; · iexact HX
    iexact Hv3
  iintro HX
  sl_exec
  ihave HP := (enter_receive X c) $$ [HX H1 Hy H3]
  · isplitl [HX]; · iexact HX
    isplitl [H1]; · iexact H1
    isplitl [Hy] <;> iassumption
  icases HP with ⟨HY, Hm, Hl⟩
  ihave Hl := (snd_whole X c fullShare.left).1 $$ Hl
  icases Hl with ⟨Hsk, Hsv⟩
  iapply (step_xrwait X K c 0 0 0 (by decide) _ rfl (credit_rcv false _)) $$ [HY]
  · isplitr; · iexact HR
    isplitr; · iexact Hlev
    iexact HY
  iintro ⟨HY, HW⟩
  sl_exec
  iapply (step_ysend X K c 1 0 0 (by decide) false rfl _ (eq_peer c _ (k0_dev11_eq c)) (k0_off1_eq c) _ _ rfl rfl) $$ [HY HW]
  · isplitr; · iexact HR
    isplitl [HY]; · iexact HY
    iexact HW
  iintro ⟨HY, HW0⟩
  sl_exec
  iapply (step_xrwait X K c 1 1 0 (by decide) _ rfl (credit_rcv true _)) $$ [HY]
  · isplitr; · iexact HR
    isplitr; · iexact Hlev
    iexact HY
  iintro ⟨HY, HW⟩
  sl_exec
  iapply (step_ysend X K c 2 1 0 (by decide) true rfl _ (eq_peer c _ (k0_dev12_eq c)) (k0_off1_eq c) _ _ rfl rfl) $$ [HY HW]
  · isplitr; · iexact HR
    isplitl [HY]; · iexact HY
    iexact HW
  iintro ⟨HY, HW1⟩
  sl_exec
  iapply (step_yrwait X K c 2 2 0 (by decide) (by decide) _ rfl (credit_rcv false _)) $$ [HY HW0]
  · isplitr; · iexact HR
    isplitr; · iexact Hlev
    isplitl [HY]; · iexact HY
    iexact HW0
  iintro ⟨HY, HR0⟩
  sl_exec
  iapply (step_yrwait X K c 2 2 1 (by decide) (by decide) _ rfl (credit_rcv true _)) $$ [HY HW1]
  · isplitr; · iexact HR
    isplitr; · iexact Hlev
    isplitl [HY]; · iexact HY
    iexact HW1
  iintro ⟨HY, HR1⟩
  ihave HR0 := (rcv_by_rect X c ⟨0, _⟩ false rfl 0 rfl inb_S4x256x1024_S1x256x1024_0_0_0 fullShare.left).1 $$ HR0
  ihave HR1 := (rcv_by_rect X c ⟨1, _⟩ true rfl 0 rfl inb_S4x256x1024_S1x256x1024_0_0_0 fullShare.left).1 $$ HR1
  sl_exec
  ihave HR0 := (rcv_by_rect X c ⟨0, by decide⟩ false rfl 0 rfl inb_S4x256x1024_S1x256x1024_0_0_0 fullShare.left).2 $$ HR0
  ihave HR1 := (rcv_by_rect X c ⟨1, by decide⟩ true rfl 0 rfl inb_S4x256x1024_S1x256x1024_0_0_0 fullShare.left).2 $$ HR1
  iapply (step_xrwait X K c 2 2 2 (by decide) _ rfl (credit_rcv false _)) $$ [HY]
  · isplitr; · iexact HR
    isplitr; · iexact Hlev
    iexact HY
  iintro ⟨HY, HW⟩
  sl_exec
  iapply (step_ysend X K c 3 2 2 (by decide) false rfl _ (eq_peer c _ (k0_dev13_eq c)) (k0_off2_eq c) _ _ rfl rfl) $$ [HY HW]
  · isplitr; · iexact HR
    isplitl [HY]; · iexact HY
    iexact HW
  iintro ⟨HY, HW2⟩
  sl_exec
  iapply (step_xrwait X K c 3 3 2 (by decide) _ rfl (credit_rcv true _)) $$ [HY]
  · isplitr; · iexact HR
    isplitr; · iexact Hlev
    iexact HY
  iintro ⟨HY, HW⟩
  sl_exec
  iapply (step_ysend X K c 4 3 2 (by decide) true rfl _ (eq_peer c _ (k0_dev14_eq c)) (k0_off2_eq c) _ _ rfl rfl) $$ [HY HW]
  · isplitr; · iexact HR
    isplitl [HY]; · iexact HY
    iexact HW
  iintro ⟨HY, HW3⟩
  sl_exec
  iapply (step_yrwait X K c 4 4 2 (by decide) (by decide) _ rfl (credit_rcv false _)) $$ [HY HW2]
  · isplitr; · iexact HR
    isplitr; · iexact Hlev
    isplitl [HY]; · iexact HY
    iexact HW2
  iintro ⟨HY, HR2⟩
  sl_exec
  iapply (step_yrwait X K c 4 4 3 (by decide) (by decide) _ rfl (credit_rcv true _)) $$ [HY HW3]
  · isplitr; · iexact HR
    isplitr; · iexact Hlev
    isplitl [HY]; · iexact HY
    iexact HW3
  iintro ⟨HY, HR3⟩
  ihave HR2 := (rcv_by_rect X c ⟨2, _⟩ false rfl 1 rfl inb_S4x256x1024_S1x256x1024_1_0_0 fullShare.left).1 $$ HR2
  ihave HR3 := (rcv_by_rect X c ⟨3, _⟩ true rfl 1 rfl inb_S4x256x1024_S1x256x1024_1_0_0 fullShare.left).1 $$ HR3
  sl_exec
  ihave HR2 := (rcv_by_rect X c ⟨2, by decide⟩ false rfl 1 rfl inb_S4x256x1024_S1x256x1024_1_0_0 fullShare.left).2 $$ HR2
  ihave HR3 := (rcv_by_rect X c ⟨3, by decide⟩ true rfl 1 rfl inb_S4x256x1024_S1x256x1024_1_0_0 fullShare.left).2 $$ HR3
  iapply (step_xrwait X K c 4 4 4 (by decide) _ rfl (credit_rcv false _)) $$ [HY]
  · isplitr; · iexact HR
    isplitr; · iexact Hlev
    iexact HY
  iintro ⟨HY, HW⟩
  sl_exec
  iapply (step_ysend X K c 5 4 4 (by decide) false rfl _ (eq_peer c _ (k0_dev15_eq c)) (k0_off3_eq c) _ _ rfl rfl) $$ [HY HW]
  · isplitr; · iexact HR
    isplitl [HY]; · iexact HY
    iexact HW
  iintro ⟨HY, HW4⟩
  sl_exec
  iapply (step_xrwait X K c 5 5 4 (by decide) _ rfl (credit_rcv true _)) $$ [HY]
  · isplitr; · iexact HR
    isplitr; · iexact Hlev
    iexact HY
  iintro ⟨HY, HW⟩
  sl_exec
  iapply (step_ysend X K c 6 5 4 (by decide) true rfl _ (eq_peer c _ (k0_dev16_eq c)) (k0_off3_eq c) _ _ rfl rfl) $$ [HY HW]
  · isplitr; · iexact HR
    isplitl [HY]; · iexact HY
    iexact HW
  iintro ⟨HY, HW5⟩
  sl_exec
  iapply (step_yrwait X K c 6 6 4 (by decide) (by decide) _ rfl (credit_rcv false _)) $$ [HY HW4]
  · isplitr; · iexact HR
    isplitr; · iexact Hlev
    isplitl [HY]; · iexact HY
    iexact HW4
  iintro ⟨HY, HR4⟩
  sl_exec
  iapply (step_yrwait X K c 6 6 5 (by decide) (by decide) _ rfl (credit_rcv true _)) $$ [HY HW5]
  · isplitr; · iexact HR
    isplitr; · iexact Hlev
    isplitl [HY]; · iexact HY
    iexact HW5
  iintro ⟨HY, HR5⟩
  ihave HR4 := (rcv_by_rect X c ⟨4, _⟩ false rfl 2 rfl inb_S4x256x1024_S1x256x1024_2_0_0 fullShare.left).1 $$ HR4
  ihave HR5 := (rcv_by_rect X c ⟨5, _⟩ true rfl 2 rfl inb_S4x256x1024_S1x256x1024_2_0_0 fullShare.left).1 $$ HR5
  sl_exec
  ihave HR4 := (rcv_by_rect X c ⟨4, by decide⟩ false rfl 2 rfl inb_S4x256x1024_S1x256x1024_2_0_0 fullShare.left).2 $$ HR4
  ihave HR5 := (rcv_by_rect X c ⟨5, by decide⟩ true rfl 2 rfl inb_S4x256x1024_S1x256x1024_2_0_0 fullShare.left).2 $$ HR5
  iapply (step_xrwait X K c 6 6 6 (by decide) _ rfl (credit_rcv false _)) $$ [HY]
  · isplitr; · iexact HR
    isplitr; · iexact Hlev
    iexact HY
  iintro ⟨HY, HW⟩
  sl_exec
  iapply (step_ysend X K c 7 6 6 (by decide) false rfl _ (eq_peer c _ (k0_dev17_eq c)) (k0_off4_eq c) _ _ rfl rfl) $$ [HY HW]
  · isplitr; · iexact HR
    isplitl [HY]; · iexact HY
    iexact HW
  iintro ⟨HY, HW6⟩
  sl_exec
  iapply (step_xrwait X K c 7 7 6 (by decide) _ rfl (credit_rcv true _)) $$ [HY]
  · isplitr; · iexact HR
    isplitr; · iexact Hlev
    iexact HY
  iintro ⟨HY, HW⟩
  sl_exec
  iapply (step_ysend X K c 8 7 6 (by decide) true rfl _ (eq_peer c _ (k0_dev18_eq c)) (k0_off4_eq c) _ _ rfl rfl) $$ [HY HW]
  · isplitr; · iexact HR
    isplitl [HY]; · iexact HY
    iexact HW
  iintro ⟨HY, HW7⟩
  sl_exec
  iapply (step_yrwait X K c 8 8 6 (by decide) (by decide) _ rfl (credit_rcv false _)) $$ [HY HW6]
  · isplitr; · iexact HR
    isplitr; · iexact Hlev
    isplitl [HY]; · iexact HY
    iexact HW6
  iintro ⟨HY, HR6⟩
  sl_exec
  iapply (step_yrwait X K c 8 8 7 (by decide) (by decide) _ rfl (credit_rcv true _)) $$ [HY HW7]
  · isplitr; · iexact HR
    isplitr; · iexact Hlev
    isplitl [HY]; · iexact HY
    iexact HW7
  iintro ⟨HY, HR7⟩
  ihave HR6 := (rcv_by_rect X c ⟨6, _⟩ false rfl 3 rfl inb_S4x256x1024_S1x256x1024_3_0_0 fullShare.left).1 $$ HR6
  ihave HR7 := (rcv_by_rect X c ⟨7, _⟩ true rfl 3 rfl inb_S4x256x1024_S1x256x1024_3_0_0 fullShare.left).1 $$ HR7
  sl_exec
  ihave HR6 := (rcv_by_rect X c ⟨6, by decide⟩ false rfl 3 rfl inb_S4x256x1024_S1x256x1024_3_0_0 fullShare.left).2 $$ HR6
  ihave HR7 := (rcv_by_rect X c ⟨7, by decide⟩ true rfl 3 rfl inb_S4x256x1024_S1x256x1024_3_0_0 fullShare.left).2 $$ HR7
  ihave HP := (enter_finish X c) $$ [HY Hm Ha0 Ha2]
  · isplitl [HY]; · iexact HY
    isplitl [Hm]; · iexact Hm
    isplitl [Ha0] <;> iassumption
  icases HP with ⟨HE, H1, H3⟩
  iapply (step_xswait X K c 0 0 (by decide) _ rfl (credit_snd false _)) $$ [HE]
  · isplitr; · iexact HR
    isplitr; · iexact Hlev
    iexact HE
  iintro HE
  sl_exec
  iapply (step_xswait X K c 1 0 (by decide) _ rfl (credit_snd true _)) $$ [HE]
  · isplitr; · iexact HR
    isplitr; · iexact Hlev
    iexact HE
  iintro HE
  sl_exec
  iapply (step_xswait X K c 2 0 (by decide) _ rfl (credit_snd false _)) $$ [HE]
  · isplitr; · iexact HR
    isplitr; · iexact Hlev
    iexact HE
  iintro HE
  sl_exec
  iapply (step_xswait X K c 3 0 (by decide) _ rfl (credit_snd true _)) $$ [HE]
  · isplitr; · iexact HR
    isplitr; · iexact Hlev
    iexact HE
  iintro HE
  sl_exec
  iapply (step_xswait X K c 4 0 (by decide) _ rfl (credit_snd false _)) $$ [HE]
  · isplitr; · iexact HR
    isplitr; · iexact Hlev
    iexact HE
  iintro HE
  sl_exec
  iapply (step_xswait X K c 5 0 (by decide) _ rfl (credit_snd true _)) $$ [HE]
  · isplitr; · iexact HR
    isplitr; · iexact Hlev
    iexact HE
  iintro HE
  sl_exec
  iapply (step_xswait X K c 6 0 (by decide) _ rfl (credit_snd false _)) $$ [HE]
  · isplitr; · iexact HR
    isplitr; · iexact Hlev
    iexact HE
  iintro HE
  sl_exec
  iapply (step_xswait X K c 7 0 (by decide) _ rfl (credit_snd true _)) $$ [HE]
  · isplitr; · iexact HR
    isplitr; · iexact Hlev
    iexact HE
  iintro HE
  sl_exec
  iapply (step_yswait X K c 8 0 (by decide) _ rfl (credit_rcv false _)) $$ [HE]
  · isplitr; · iexact HR
    isplitr; · iexact Hlev
    iexact HE
  iintro HE
  sl_exec
  iapply (step_yswait X K c 8 1 (by decide) _ rfl (credit_rcv true _)) $$ [HE]
  · isplitr; · iexact HR
    isplitr; · iexact Hlev
    iexact HE
  iintro HE
  sl_exec
  iapply (step_yswait X K c 8 2 (by decide) _ rfl (credit_rcv false _)) $$ [HE]
  · isplitr; · iexact HR
    isplitr; · iexact Hlev
    iexact HE
  iintro HE
  sl_exec
  iapply (step_yswait X K c 8 3 (by decide) _ rfl (credit_rcv true _)) $$ [HE]
  · isplitr; · iexact HR
    isplitr; · iexact Hlev
    iexact HE
  iintro HE
  sl_exec
  iapply (step_yswait X K c 8 4 (by decide) _ rfl (credit_rcv false _)) $$ [HE]
  · isplitr; · iexact HR
    isplitr; · iexact Hlev
    iexact HE
  iintro HE
  sl_exec
  iapply (step_yswait X K c 8 5 (by decide) _ rfl (credit_rcv true _)) $$ [HE]
  · isplitr; · iexact HR
    isplitr; · iexact Hlev
    iexact HE
  iintro HE
  sl_exec
  iapply (step_yswait X K c 8 6 (by decide) _ rfl (credit_rcv false _)) $$ [HE]
  · isplitr; · iexact HR
    isplitr; · iexact Hlev
    iexact HE
  iintro HE
  sl_exec
  iapply (step_yswait X K c 8 7 (by decide) _ rfl (credit_rcv true _)) $$ [HE]
  · isplitr; · iexact HR
    isplitr; · iexact Hlev
    iexact HE
  iintro HE
  sl_exec
  ihave HL := (rows_eight fun i => rcvRow X c i fullShare.left) $$ [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  ihave HL := (leave X c) $$ [HE HL H1 H3 Hsk Hsv]
  · isplitl [HE]; · iexact HE
    isplitl [HL]; · iexact HL
    isplitl [H1]; · iexact H1
    isplitl [H3]; · iexact H3
    isplitl [Hsk] <;> iassumption
  icases HL with ⟨HO, Hs, Hz⟩
  rw [wp_ret]; imodintro
  iapply HQ
  unfold Done
  isplitl [HO]; · iexact HO
  isplitr [Hs Hz Hbar]
  · isplitl [Hq]; · iexact Hq
    isplitl [Hk]; · iexact Hk
    isplitl [Hv]; · iexact Hv
    iclear HR Hlev
    istop
    refine out_stored c _ _ ?_ ?_
    · repeat refine good_cons (by decide) rfl ?_
      exact good_nil
    · rfl
  isplitl [Hs]; · iexact Hs
  isplitl [Hz]; · iexact Hz
  iexact Hbar

end Cert.Exchange

end
-- ==== Proof.Ghost.lean ====
/-
# What the launch deals the devices

The launch mints the cells' rounds and the tokens of their duties, allocates the cells' invariants, and deals each device
its own cells' positions and the tokens of the duties it pays: its signals at its partner's and peer's barriers, its
transfers' departures, and their arrivals at the partner and the peer.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Bool → Dev nD → Vec F S4x256x1024 .bf16)

/-- The kernel's own semaphores: the four families of eight. -/
abbrev osem : Fin 4 × Fin 8 → SemLoc sig := fun p => .dma (fsem p.1 p.2)

theorem csem_injective : Function.Injective csem := by
  rintro (⟨⟩ | ⟨f, i⟩) (⟨⟩ | ⟨f', i'⟩) h
  · rfl
  · cases h
  · cases h
  · obtain ⟨rfl, rfl⟩ := fsem_inj (SemLoc.dma.inj h); rfl

theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl

def exCells : Finset (GSem nD τ sig) := Finset.univ.map ⟨kcell, kcell_injective⟩

/-- A device's own cells' duties: the two of its barrier, and one of each transfer cell. -/
abbrev DK : Type := Bool ⊕ (Fin 4 × Fin 8)
abbrev dutyOf (cd : Dev nD × DK) : GSem nD τ sig × ℕ × Bool := match cd.2 with
  | .inl d => (barCell cd.1, 0, d)
  | .inr p => (cell cd.1 p.1 p.2, 0, false)

theorem dutyOf_injective : Function.Injective dutyOf := by
  rintro ⟨c, d⟩ ⟨c', d'⟩ h
  rcases d with d | p <;> rcases d' with d' | p'
  · obtain rfl : c = c' := congrArg (fun x : GSem nD τ sig × ℕ × Bool => x.1.1.1) h
    obtain rfl : d = d' := congrArg (fun x : GSem nD τ sig × ℕ × Bool => x.2.2) h
    rfl
  · exact absurd (congrArg (fun x : GSem nD τ sig × ℕ × Bool => x.1.2) h) (fun h => by cases h)
  · exact absurd (congrArg (fun x : GSem nD τ sig × ℕ × Bool => x.1.2) h) (fun h => by cases h)
  · obtain ⟨rfl, h1, h2⟩ := cell_inj (congrArg Prod.fst h)
    obtain rfl : p = p' := Prod.ext h1 h2
    rfl

def exDuties : Finset (GSem nD τ sig × ℕ × Bool) := Finset.univ.map ⟨dutyOf, dutyOf_injective⟩

/-- The launch's ghost element: the pipeline's, and the exchange's. -/
def u₀ : UU :=
  (initOf (Pipeline.cells cfgs cellOf_inj) (Pipeline.launchToks cfgs cellOf_inj), initOf exCells exDuties)

/-- The tokens of the duties of device `c`'s own cells, -/
def ownToks (c : Dev nD) : sProp 𝕄 :=
  iprop((dutyTok ER (barCell c) 0 false ∗ dutyTok ER (barCell c) 0 true)
    ∗ (bigSep Finset.univ fun i : Fin 8 => dutyTok ER (cell c 0 i) 0 false) ∗ (bigSep Finset.univ fun i : Fin 8 => dutyTok ER (cell c 1 i) 0 false)
    ∗ (bigSep Finset.univ fun i : Fin 8 => dutyTok ER (cell c 2 i) 0 false) ∗ (bigSep Finset.univ fun i : Fin 8 => dutyTok ER (cell c 3 i) 0 false))
/-- and of those it pays. -/
def payToks (c : Dev nD) : sProp 𝕄 :=
  iprop((dutyTok ER (barCell (partner c)) 0 false ∗ dutyTok ER (barCell (peer c)) 0 true)
    ∗ (bigSep Finset.univ fun i => iprop(dutyTok ER (cell c 0 i) 0 false ∗ dutyTok ER (cell (partner c) 1 i) 0 false))
    ∗ (bigSep Finset.univ fun i => iprop(dutyTok ER (cell c 2 i) 0 false ∗ dutyTok ER (cell (peer c) 3 i) 0 false)))

/-- What the launch element deals device `c`. -/
def Deal (c : Dev nD) : sProp 𝕄 :=
  iprop((bigSep Finset.univ fun k : CK => roundState ER (exRd X) (kcell (c, k)) 0)
    ∗ (bigSep Finset.univ fun k : CK => atPos ER (kcell (c, k)) 0 ∅ 0) ∗ (bigSep Finset.univ fun k : CK => reached ER (kcell (c, k)) 0) ∗ ownToks (F := F) c)

/-- A device's positions. -/
def poss (c : Dev nD) : sProp 𝕄 := bigSep Finset.univ fun k : CK => atPos ER (kcell (c, k)) 0 ∅ 0

/-- What the global step makes of it. -/
def Dealt (c : Dev nD) : sProp 𝕄 := iprop((∃ K, records X K) ∗ poss (F := F) c ∗ payToks (F := F) c)

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem fund : BI.own (ER (initOf exCells exDuties)) ⊢ (|==> bigSep Finset.univ (Deal X) : sProp 𝕄) := by
  have hX (Φ : GSem nD τ sig → sProp 𝕄) : bigSep exCells Φ = bigSep Finset.univ fun c : Dev nD => bigSep Finset.univ fun k : CK => Φ (kcell (c, k)) := by
    unfold exCells; rw [bigSep_map, bigSep_univ_prod]; rfl
  have hT : bigSep exDuties (fun x => (dutyTok ER x.1 x.2.1 x.2.2 : sProp 𝕄)) = bigSep Finset.univ fun c : Dev nD => ownToks c := by
    unfold exDuties; rw [bigSep_map, bigSep_univ_prod]
    refine bigSep_congr fun c _ => ?_
    unfold ownToks
    rw [bigSep_univ_sum, bigSep_univ_eq_bigSepL [false, true] (by decide) (by decide), bigSepL_cons_cons, bigSepL_singleton, bigSep_univ_prod, bigSep_fin4]
    rfl
  iintro HX
  imod (Rounds.fund ER (exRd X) exCells exDuties) $$ HX with ⟨Hst, Hr, Hat, Htok⟩
  imodintro
  ihave Hst := (Entails.of_eq (hX fun g => roundState ER (exRd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Deal; simp only [bigSep_sep']
  isplitl [Hst]; · iexact Hst
  isplitl [Hat]; · iexact Hat
  isplitl [Hr] <;> iassumption

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  have h : (bigSep Finset.univ fun k : CK => semVal (kcell (c, k)) 0 : sProp 𝕄)
      = iprop(semVal (barCell c) 0 ∗ Pipeline.ownSems0 (Ix := Unit) (Name := ℕ) (U := UU) (Lvl := ℕ) (Val := Elt F) (τ := τ) osem c) := by
    rw [bigSep_univ_sum, Finset.univ_unique, bigSep_singleton]; rfl
  rw [unscopedSems0_eq, h]
  iintro ⟨HS, HB⟩
  isplitl [HB]; · iexact HB
  iexact HS

omit [FloatOps F] in
theorem alloc (c : Dev nD) :
    iprop(Pipeline.ownSems0 (Ix := Unit) (Name := ℕ) (U := UU) (Lvl := ℕ) (Val := Elt F) (τ := τ) osem c ∗ unscopedSems0 c ∗ Deal X c)
      ⊢ |={Set.univ}=> iprop((bigSep Finset.univ fun k => iprop(∃ κ : ℕ, cellInv ER (exRd X) κ (kcell (c, k))))
          ∗ poss (F := F) c ∗ (bigSep Finset.univ fun k => reached ER (kcell (c, k)) 0) ∗ ownToks (F := F) c) := by
  unfold Deal poss
  iintro ⟨Hos, Hus, Hst, Hat, Hr, Htok⟩
  ihave Hv := (sems0 (F := F) c) $$ [Hos Hus]
  · isplitl [Hos] <;> iassumption
  imod (show iprop((bigSep Finset.univ fun k : CK => semVal (kcell (c, k)) 0) ∗ bigSep Finset.univ fun k : CK => roundState ER (exRd X) (kcell (c, k)) 0)
      ⊢ (|={Set.univ}=> bigSep Finset.univ fun k => iprop(∃ κ : ℕ, cellInv ER (exRd X) κ (kcell (c, k))) : sProp 𝕄) from by
        rw [← bigSep_sep']
        exact (bigSep_mono fun k _ => (Rounds.body_intro ER (exRd X) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

omit [FloatOps F] in
/-- The tokens dealt: those of a barrier and of the arrivals go to the partner or the peer. -/
theorem deal_toks : (bigSep Finset.univ fun c : Dev nD => (ownToks c : sProp 𝕄)) ⊢ bigSep Finset.univ fun c : Dev nD => payToks c := by
  unfold ownToks payToks
  simp only [bigSep_sep']
  rw [bigSep_univ_equiv partnerEquiv (fun c : Dev nD => (dutyTok ER (barCell c) 0 false : sProp 𝕄)),
    bigSep_univ_equiv peerEquiv (fun c : Dev nD => (dutyTok ER (barCell c) 0 true : sProp 𝕄)),
    bigSep_univ_equiv partnerEquiv (fun c : Dev nD => bigSep Finset.univ fun i : Fin 8 => (dutyTok ER (cell c 1 i) 0 false : sProp 𝕄)),
    bigSep_univ_equiv peerEquiv (fun c : Dev nD => bigSep Finset.univ fun i : Fin 8 => (dutyTok ER (cell c 3 i) 0 false : sProp 𝕄))]
  iintro ⟨⟨Hp, Hq⟩, H0, H1, H2, H3⟩
  isplitl [Hp Hq]
  · isplitl [Hp]; · iexact Hp
    iexact Hq
  isplitl [H0 H1]
  · isplitl [H0]; · iexact H0
    iexact H1
  · isplitl [H2]; · iexact H2
    iexact H3

omit [FloatOps F] in
/-- A persistent fact goes to every device. -/
theorem with_persistent {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

omit [FloatOps F] in
theorem dealt_intro (K : Dev nD × CK → ℕ) (c : Dev nD) : iprop(records X K ∗ (poss (F := F) c ∗ payToks (F := F) c)) ⊢ Dealt X c := by
  unfold Dealt
  iintro ⟨HR, HP⟩
  isplitl [HR]
  · iexists K; iexact HR
  iexact HP

omit [FloatOps F] in
theorem regroup :
    (bigSep Finset.univ fun c : Dev nD => iprop((bigSep Finset.univ fun k => iprop(∃ κ : ℕ, cellInv ER (exRd X) κ (kcell (c, k))))
          ∗ poss (F := F) c ∗ (bigSep Finset.univ fun k => reached ER (kcell (c, k)) 0) ∗ ownToks (F := F) c) : sProp 𝕄)
      ⊢ bigSep Finset.univ (Dealt X) := by
  rw [bigSep_sep', bigSep_sep', bigSep_sep', ← bigSep_univ_prod (fun ck : Dev nD × CK => iprop(∃ κ : ℕ, cellInv ER (exRd X) κ (kcell ck))),
    ← bigSep_univ_prod (fun ck : Dev nD × CK => (reached ER (kcell ck) 0 : sProp 𝕄))]
  iintro ⟨HI, Hat, #HR, Htok⟩
  ihave HK := (BI.bigSep_exists_pi Finset.univ (fun (ck : Dev nD × CK) (κ : ℕ) => (cellInv ER (exRd X) κ (kcell ck) : sProp 𝕄))) $$ HI
  icases HK with ⟨%K, #HI⟩
  ihave Htk := (deal_toks (F := F)) $$ Htok
  iapply (with_persistent (R := records X K) (dealt_intro X K))
  isplitr
  · unfold records; isplitl; · iexact HI
    iexact HR
  · iapply (Entails.of_eq (bigSep_sep' Finset.univ (poss (F := F)) payToks).symm)
    isplitl [Hat]; · iexact Hat
    iexact Htk

omit [FloatOps F] in
/-- The global step, over every device's semaphores at once. -/
theorem glob : (bigSep Finset.univ fun c => iprop(Pipeline.ownSems0 (Ix := Unit) (Name := ℕ) (U := UU) (Lvl := ℕ) (Val := Elt F) (τ := τ) osem c ∗ unscopedSems0 c ∗ Deal X c) : sProp 𝕄)
    ⊢ |={Set.univ}=> bigSep Finset.univ (Dealt X) :=
  ((bigSep_mono fun c _ => alloc X c).trans (bigSep_fupd _ _)).trans (BI.fupd_mono (regroup X))

/-! ## The launch credit -/

theorem bar_eq_iff {a b : Dev nD} : barCell a = barCell b ↔ a = b :=
  ⟨fun h => congrArg (fun g : GSem nD τ sig => g.1.1) h, fun h => h ▸ rfl⟩

theorem sum_one (i : Fin 8) (n : ℕ) (p : Prop) [Decidable p] : (∑ j : Fin 8, if (p ∧ i = j) ∧ () = () then n else 0) = if p then n else 0 := by
  by_cases h : p
  · simp [h]
  · simp [h]

/-- The transfers' credits a device owes, at a barrier: none; -/
theorem sum_bar (c d : Dev nD) (f : Fin 4) (S : Finset (Fin 8)) : (∑ i ∈ S, (tallyAt (cell d f i) () N : CellTallies nD τ sig Unit)) (barCell c) () = 0 := by
  rw [sum_tally_apply]
  exact Finset.sum_eq_zero fun i _ => if_neg fun h => by cases congrArg Prod.snd h.1
/-- at a transfer's cell: a window's, if it is that device's of that family. -/
theorem sum_cell (c d : Dev nD) (f f' : Fin 4) (i : Fin 8) :
    (∑ j ∈ Finset.univ.filter (fun j : Fin 8 => 0 ≤ j.val), (tallyAt (cell d f' j) () N : CellTallies nD τ sig Unit)) (cell c f i) () = if c = d ∧ f = f' then N else 0 := by
  rw [sum_tally_apply, Finset.filter_true_of_mem fun j _ => Nat.zero_le _, ← sum_one i N (c = d ∧ f = f')]
  refine Finset.sum_congr rfl fun j _ => if_congr ?_ rfl rfl
  constructor
  · rintro ⟨h, -⟩
    obtain ⟨h1, h2, h3⟩ := cell_inj h
    exact ⟨⟨⟨h1, h2⟩, h3⟩, rfl⟩
  · rintro ⟨⟨⟨rfl, rfl⟩, rfl⟩, -⟩
    exact ⟨rfl, rfl⟩

theorem owed_bar (d c : Dev nD) : O₀ d (barCell c) () = (if d = peer c then 1 else 0) + (if d = partner c then 1 else 0) := by
  unfold O₀ O₁ OX OY
  rw [Pi.add_apply, Finsupp.add_apply, Pi.add_apply, Finsupp.add_apply, Pi.add_apply, Finsupp.add_apply, sum_bar, sum_bar, tallyAt_apply, tallyAt_apply]
  simp only [Nat.zero_add, Nat.add_zero]
  congr 1
  · refine if_congr ?_ rfl rfl
    rw [bar_eq_iff]
    exact ⟨fun h => by rw [h.1, peer_peer], fun h => ⟨by rw [h, peer_peer], trivial⟩⟩
  · refine if_congr ?_ rfl rfl
    rw [bar_eq_iff]
    exact ⟨fun h => by rw [h.1, partner_partner], fun h => ⟨by rw [h, partner_partner], trivial⟩⟩

theorem owed_cell (d c : Dev nD) (f : Fin 4) (i : Fin 8) :
    O₀ d (cell c f i) () = (if c = peer d ∧ f = 3 then N else 0) + (if c = partner d ∧ f = 1 then N else 0) := by
  unfold O₀ O₁ OX OY
  rw [Pi.add_apply, Finsupp.add_apply, Pi.add_apply, Finsupp.add_apply, Pi.add_apply, Finsupp.add_apply, sum_cell, sum_cell,
    tallyAt_ne_cell (fun h => by cases congrArg Prod.snd h), tallyAt_ne_cell (fun h => by cases congrArg Prod.snd h)]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (peer c) fun _ => 1, Finset.sum_ite_eq' Finset.univ (partner c) fun _ => 1, if_pos (Finset.mem_univ _), if_pos (Finset.mem_univ _)]

theorem launch_cell1 (c : Dev nD) (i : Fin 8) :
    tallyOn (cell c 1 i) (launchCredit (Pipeline.owing O₀) 0 (cell c 1 i)) = (tallyAt (cell c 1 i) () N : CellTallies nD τ sig Unit) := by
  unfold tallyAt; refine congrArg _ (Finsupp.ext fun u => ?_); cases u
  rw [Pipeline.launchCredit_owing, Finsupp.single_eq_same, Finset.sum_congr rfl fun d _ => (owed_cell d c 1 i).trans
    (show _ = if d = partner c then N else 0 from by
      rw [if_neg (fun h => by cases h.2), Nat.zero_add]
      exact if_congr ⟨fun h => by rw [h.1, partner_partner], fun h => ⟨by rw [h, partner_partner], rfl⟩⟩ rfl rfl),
    Finset.sum_ite_eq' Finset.univ (partner c) fun _ => N, if_pos (Finset.mem_univ _)]

theorem launch_cell3 (c : Dev nD) (i : Fin 8) :
    tallyOn (cell c 3 i) (launchCredit (Pipeline.owing O₀) 0 (cell c 3 i)) = (tallyAt (cell c 3 i) () N : CellTallies nD τ sig Unit) := by
  unfold tallyAt; refine congrArg _ (Finsupp.ext fun u => ?_); cases u
  rw [Pipeline.launchCredit_owing, Finsupp.single_eq_same, Finset.sum_congr rfl fun d _ => (owed_cell d c 3 i).trans
    (show _ = if d = peer c then N else 0 from by
      rw [if_neg (c := c = partner d ∧ (3 : Fin 4) = 1) (fun h => absurd h.2 (by decide)), Nat.add_zero]
      exact if_congr ⟨fun h => by rw [h.1, peer_peer], fun h => ⟨by rw [h, peer_peer], rfl⟩⟩ rfl rfl),
    Finset.sum_ite_eq' Finset.univ (peer c) fun _ => N, if_pos (Finset.mem_univ _)]

/-- The semaphores the launch credits: the barrier's, and the arrivals'. -/
abbrev credSem : Unit ⊕ (Fin 8 ⊕ Fin 8) → SemLoc sig
  | .inl _ => .reg barS
  | .inr (.inl i) => .dma (fsem 1 i)
  | .inr (.inr i) => .dma (fsem 3 i)
theorem credSem_injective : Function.Injective credSem := by
  rintro (⟨⟩ | i | i) (⟨⟩ | j | j) h
  · rfl
  · cases h
  · cases h
  · cases h
  · obtain ⟨-, rfl⟩ := fsem_inj (SemLoc.dma.inj h); rfl
  · exact absurd (fsem_inj (SemLoc.dma.inj h)).1 (by decide)
  · cases h
  · exact absurd (fsem_inj (SemLoc.dma.inj h)).1 (by decide)
  · obtain ⟨-, rfl⟩ := fsem_inj (SemLoc.dma.inj h); rfl

omit [FloatOps F] in
theorem creds (c : Dev nD) :
    (Pipeline.launchCred O₀ c : sProp 𝕄) ⊢ iprop(cred (tallyAt (barCell c) () 2) ∗ (bigSep Finset.univ fun i => cred (tallyAt (cell c 1 i) () N))
      ∗ bigSep Finset.univ fun i => cred (tallyAt (cell c 3 i) () N)) := by
  unfold Pipeline.launchCred
  refine (bigSep_subset (Finset.subset_univ (Finset.univ.map ⟨credSem, credSem_injective⟩))).trans ?_
  rw [bigSep_map, bigSep_univ_sum, bigSep_univ_sum, Finset.univ_unique, bigSep_singleton]
  refine Entails.of_eq (congrArg₂ (fun a b : sProp 𝕄 => iprop(a ∗ b)) ?_ (congrArg₂ (fun a b : sProp 𝕄 => iprop(a ∗ b)) ?_ ?_))
  · exact congrArg _ (launch_bar c)
  · exact bigSep_congr fun i _ => congrArg _ (launch_cell1 c i)
  · exact bigSep_congr fun i _ => congrArg _ (launch_cell3 c i)

/-- What a device starts from: the records, its levels and its protocol resources. -/
def Begin (c : Dev nD) : sProp 𝕄 := iprop((∃ K, records X K) ∗ levAts L lv ∗ Start (F := F) c)

omit [FloatOps F] in
theorem poss_split (c : Dev nD) :
    poss (F := F) c ⊢ iprop(atPos ER (barCell c) 0 ∅ 0 ∗ (bigSep Finset.univ fun i => atPos ER (cell c 0 i) 0 ∅ 0) ∗ (bigSep Finset.univ fun i => atPos ER (cell c 1 i) 0 ∅ 0)
      ∗ (bigSep Finset.univ fun i => atPos ER (cell c 2 i) 0 ∅ 0) ∗ (bigSep Finset.univ fun i => atPos ER (cell c 3 i) 0 ∅ 0)) := by
  unfold poss
  rw [bigSep_univ_sum, Finset.univ_unique, bigSep_singleton, bigSep_univ_prod, bigSep_fin4]
  exact BI.Entails.refl _

omit [FloatOps F] in
theorem begin_intro (c : Dev nD) : iprop(levAts L lv ∗ Pipeline.launchCred O₀ c ∗ Dealt X c) ⊢ Begin X c := by
  unfold Dealt Begin Start payToks wPre
  iintro ⟨Hlev, Hcr, HR, Hp, Htb, Htx, Hty⟩
  ihave Hcr := (creds (F := F) c) $$ Hcr
  icases Hcr with ⟨Hcb, Hc1, Hc3⟩
  ihave Hp := (poss_split (F := F) c) $$ Hp
  icases Hp with ⟨Hb, H0, H1, H2, H3⟩
  isplitl [HR]; · iexact HR
  isplitl [Hlev]; · iexact Hlev
  isplitl [Htb]; · iexact Htb
  isplitl [Hb Hcb]
  · isplitl [Hb] <;> iassumption
  isplitl [Htx]; · iexact Htx
  isplitl [Hty]; · iexact Hty
  isplitl [H0]; · iexact H0
  rw [bigSep_sep', bigSep_sep']
  isplitl [H1 Hc1]
  · isplitl [H1] <;> iassumption
  isplitl [H2]; · iexact H2
  isplitl [H3] <;> iassumption

end Cert.Exchange

end
-- ==== Proof.Run.lean ====
/-
# The run

From any memory with zero counters, every weakly fair execution of the kernel on the mesh of four devices terminates,
with each device's result array at the contents stated here, the arguments as they were and every counter at zero.
-/
module

public import proofs.«01_k».proof.Proof.Ghost
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device `c`'s queries, -/
def qB (c : Dev nD) : Vec F S4x256x1024 .bf16 :=
  (win0_0.blk (t₀ : Fin grid0.N)).view.read (Elt F) ((s₀ m ρ).mem ((c : Thread nD τ).loc main_arg0))
/-- and its own keys (`false`) and values (`true`). -/
def kvB : Bool → Dev nD → Vec F S4x256x1024 .bf16
  | false, c => (win0_1.blk (t₀ : Fin grid0.N)).view.read (Elt F) ((s₀ m ρ).mem ((c : Thread nD τ).loc main_arg1))
  | true, c => (win0_2.blk (t₀ : Fin grid0.N)).view.read (Elt F) ((s₀ m ρ).mem ((c : Thread nD τ).loc main_arg2))

/-- What device `c` stores: the attention of its queries over its own keys and those it received. -/
def outB (c : Dev nD) : Vec F S4x256x1024 .f32 :=
  outV (qB m ρ c) (kvB m ρ false c) (kvB m ρ true c) (rcvX (kvB m ρ false) c) (rcvX (kvB m ρ true) c)

/-- The scratch buffers, at any contents. -/
def scratchAny (c : Dev nD) : sProp 𝕄 :=
  iprop((∃ f, buf cc0_scratch0 c fullShare f) ∗ (∃ f, buf cc0_scratch1 c fullShare f) ∗ (∃ f, buf cc0_scratch2 c fullShare f) ∗ (∃ f, buf cc0_scratch3 c fullShare f))

/-- What a device holds before the body, and after it. -/
def Φ₀ (c : Dev nD) : sProp 𝕄 := iprop(Begin (kvB m ρ) c ∗ scratchAny (F := F) c)
def Φ₁ (c : Dev nD) : sProp 𝕄 := iprop(semVal (barCell c) 0 ∗ ownZero (F := F) c ∗ scratchAny (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qB m ρ c
    | ⟨1, _⟩ => kvB m ρ false c
    | ⟨2, _⟩ => kvB m ρ true c
    | ⟨3, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost (c : Dev nD) : sProp 𝕄 :=
  iprop(Φ₁ (F := F) c ∗ (dats m ρ 0 c).owesAt () t₀.succ
    ∗ stg c cc0_stg0_0 (qB m ρ c) ∗ stg c cc0_stg1_0 (kvB m ρ false c) ∗ stg c cc0_stg2_0 (kvB m ρ true c) ∗ stg c cc0_stg3_0 (outB m ρ c))

theorem fetch_in (w : Fin cfg0.W) (h : w ≠ (3 : Fin 4)) : (cfg0.win w).fetch t₀ = true := by revert w; decide

/-- What the fetches put in the first three staging buffers. -/
theorem before_q (c : Dev nD) (d) : (dats m ρ 0 c).before (0 : Fin 4) t₀ d = qB m ρ c := by
  unfold Dat.before; rw [if_pos (fetch_in 0 (by decide))]; rfl
theorem before_k (c : Dev nD) (d) : (dats m ρ 0 c).before (1 : Fin 4) t₀ d = kvB m ρ false c := by
  unfold Dat.before; rw [if_pos (fetch_in 1 (by decide))]; rfl
theorem before_v (c : Dev nD) (d) : (dats m ρ 0 c).before (2 : Fin 4) t₀ d = kvB m ρ true c := by
  unfold Dat.before; rw [if_pos (fetch_in 2 (by decide))]; rfl

theorem done_post (c : Dev nD) : Done (kvB m ρ) c (qB m ρ c) ⊢ bodyPost m ρ c := by
  unfold Done bodyPost Φ₁ scratchAny Ow Dat.owesAt Pipeline.owesWithin
  rw [show (dats m ρ 0 c).owed t₀.succ = 0 from rfl]
  iintro ⟨⟨%W, HO⟩, ⟨H0, H1, H2, H3⟩, ⟨G0, G1, G2, G3⟩, Hz, Hb⟩
  isplitl [G0 G1 G2 G3 Hz Hb]
  · isplitl [Hb]; · iexact Hb
    isplitl [Hz]; · iexact Hz
    isplitl [G0]; · iexists _; iexact G0
    isplitl [G1]; · iexists _; iexact G1
    isplitl [G2]; · iexists _; iexact G2
    iexists _; iexact G3
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
theorem body_sound (c : Dev nD) :
    bodyPre m ρ c ⊢ wp frame (wpE (defs₀ (F := F)) 𝒱₀ (c : Thread nD τ) none) Set.univ (body (F := F)) (fun _ => bodyPost m ρ c) := by
  unfold bodyPre Φ₀ Begin scratchAny Dat.owesAt Pipeline.owesWithin
  rw [show (dats m ρ 0 c).owed t₀.castSucc = O₀ c from rfl]
  simp only [before_q, before_k, before_v]
  iintro ⟨⟨⟨⟨%K, HK⟩, Hlev, Hst⟩, ⟨%f0, F0⟩, ⟨%f1, F1⟩, ⟨%f2, F2⟩, ⟨%f3, F3⟩⟩, ⟨%W, %hW, HO⟩, ⟨%d0, %g0, %e0, H0⟩, ⟨%d1, %g1, %e1, H1⟩, ⟨%d2, %g2, %e2, H2⟩, ⟨%d3, %g3, %e3, H3⟩⟩
  subst e0 e1 e2
  iapply (sound (kvB m ρ) K c (qB m ρ c) g3 f0 f1 f2 f3 fun _ => bodyPost m ρ c)
  isplitr []
  · isplitl [HK]; · iexact HK
    isplitl [Hlev]; · iexact Hlev
    isplitl [HO]
    · unfold Ow; iexists W; iexact HO
    isplitl [Hst]; · iexact Hst
    isplitl [H0]; · iexact H0
    isplitl [H1]; · iexact H1
    isplitl [H2]; · iexact H2
    isplitl [H3]; · iexact H3
    isplitl [F0]; · iexact F0
    isplitl [F1]; · iexact F1
    isplitl [F2]; · iexact F2
    iexact F3
  · iintro H; iapply (done_post m ρ c); iexact H

omit [FloatOps F] in
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

set_option maxRecDepth 100000 in
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ (body (F := F)) (fun _ => bodyPost m ρ c)
  exact body_sound m ρ c

/-! ## The launch -/

set_option maxRecDepth 4000 in
theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Dealt (kvB m ρ) c)
      ⊢ |={Set.univ}=> iprop(Begin (kvB m ρ) c ∗ emp) := by
  iintro ⟨-, Hlev, Hcr, -, HG⟩
  imodintro
  isplitl
  · iapply (begin_intro (kvB m ρ) c)
    isplitl [Hlev]; · iexact Hlev
    isplitl [Hcr] <;> iassumption
  · iempintro

theorem phi0_intro (c : Dev nD) :
    iprop(Begin (kvB m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratchAny
  iintro ⟨Hs, -, Hr⟩
  isplitl [Hs]; · iexact Hs
  iexact Hr

omit [FloatOps F] in
theorem own_sems (c : Dev nD) : (bigSep Finset.univ fun p : Fin 4 × Fin 8 => semVal (cell c p.1 p.2) 0 : sProp 𝕄)
    = Pipeline.ownSems0 (Ix := Unit) (Name := ℕ) (U := UU) (Lvl := ℕ) (Val := Elt F) (τ := τ) osem c := rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratchAny ownZero
  iintro ⟨HzB, Hz, Hr⟩
  isplitl [HzB]; · iexact HzB
  isplitl [Hz]; · iapply (Entails.of_eq (own_sems (F := F) c)); iexact Hz
  iexact Hr

theorem stage_sem (w : Fin cfg0.W) (s : Fin (cfg0.win w).nbuf) : ((cfg0.win w).sem s).val < 4 := by revert w; decide

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- The run of the whole program, at any float values. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := Deal (kvB m ρ)) (G' := Dealt (kvB m ρ)) (u₀ := u₀)
    (hu₀ := by
      unfold u₀
      iintro Hu
      ihave H := (ownU_pair _ _) $$ Hu
      icases H with ⟨HP, HX⟩
      imod (fund (kvB m ρ)) $$ HX with HG
      imodintro
      isplitl [HP] <;> iassumption)
    (hglob := glob (kvB m ρ))
    (hA := fun _ _ => rfl) (hpf := fun _ k => k.elim0)
    (X := Begin (kvB m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_in (c : Dev nD) (w : Fin cfg0.W) (hw : w ≠ (3 : Fin 4)) : finalA m ρ c w = (s₀ m ρ).mem ((cfg0.win w).arr.view.loc (c : Thread nD τ)) :=
  (dats (F := F) m ρ 0 c).arrAt_in w (by revert w; decide) _

end Cert.Exchange

end
-- ==== Proof.Frames.lean ====
/-
# The frames

The kernel and its ideal instance are one text, so both frames are the run of `Run.lean` with the values dropped, at the
words and at the extended reals. The reference is host operations alone: it has no semaphore, and its run leaves the
arguments unchanged.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Quiescent

@[expose] public section

noncomputable section

namespace Cert.Exchange

open Idealize.ShloMosaic Idealize.SL.Sem

instance : Cert.Pre_finite_KernelIdeal.Facts := ⟨by decide, by decide⟩
instance : Cert.Pre_finite_ReferenceIdeal.Facts := ⟨by decide, by decide⟩

/-- The run at any float values, of the arguments and the counters alone. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0 :=
  (θ_run Cert.KernelIdeal.defs _ _).mono
    (fun _ h => ⟨fun c => ⟨(h.1 c (0 : Fin 4)).trans (finalA_in m ρ c (0 : Fin 4) (by decide)),
      (h.1 c (1 : Fin 4)).trans (finalA_in m ρ c (1 : Fin 4) (by decide)),
      (h.1 c (2 : Fin 4)).trans (finalA_in m ρ c (2 : Fin 4) (by decide))⟩, h.2⟩)
    (run_main m ρ)

/-! The two programs have one text: their bodies agree, and so do the tables that hold them. -/

section Text

variable {F : FTy → Type} [FloatOps F]

set_option maxRecDepth 100000 in
theorem body_eq (a0 a1 a2 a3 a4 a5 a6 a7 : _) (h0 h1 h2 h3 h4 h5 h6 h7 : _) (b0 b1 b2 b3) :
    Cert.Kernel.cc0__fused_body (F := F) a0 h0 a1 h1 a2 h2 a3 h3 a4 h4 a5 h5 a6 h6 a7 h7 b0 b1 b2 b3
      = Cert.KernelIdeal.cc0__fused_body (F := F) a0 h0 a1 h1 a2 h2 a3 h3 a4 h4 a5 h5 a6 h6 a7 h7 b0 b1 b2 b3 := rfl

set_option maxRecDepth 100000 in
theorem defs₀_eq : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l x
  match l, x with
  | 0, (t, s) => exact body_eq ..
  | ⟨_ + 1, h⟩, _ => exact absurd h (Nat.not_lt.2 (Nat.le_add_left _ _))

set_option maxRecDepth 100000 in
theorem defs_eq : Cert.Kernel.defs (F := F) = Cert.KernelIdeal.defs (F := F) := congrArg (Pipeline.defs Cert.KernelIdeal.pcfgs) defs₀_eq

end Text

/-- The kernel as printed. -/
theorem frame_kernel : Cert.quiescent_Kernel := fun m ρ _ => by
  have h := frame (F := Bits) m ρ
  rw [← defs_eq] at h
  exact h

/-- The kernel over the extended reals. -/
theorem frame_ideal : Cert.quiescent_KernelIdeal := fun m ρ _ => frame (F := Ideal) m ρ

theorem frame_ideal_pre : Cert.quiescent_KernelIdeal_pre_finite_KernelIdeal := fun m ρ _ => frame_ideal m ρ trivial

/-- The reference. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

theorem frame_reference_pre : Cert.quiescent_ReferenceIdeal_pre_finite_ReferenceIdeal := fun m ρ _ => frame_reference m ρ trivial

end Cert.Exchange

end
-- ==== Proof.Softmax.lean ====
/-
# Softmax over the extended reals

The reference subtracts the greatest score from every score before it exponentiates, divides each exponential by the sum of
them all, and only then weights the values; the kernel exponentiates the scores themselves, weights the values with the
exponentials and divides once. Where the scores are real both are the same extended real, whatever the values are
(`softmax_eq`): every exponential is a positive real, so is their sum, and a non-negative real distributes over any
sum of extended reals.
-/
module

public import Idealize.ShloMosaic.PureOps.Ideal

@[expose] public section

noncomputable section

namespace Cert.Exchange

open Idealize.ShloMosaic

/-- A sum of reals, read in the extended reals. -/
theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- A non-negative real distributes over a sum of extended reals. -/
theorem sum_mul_coe {ι : Type*} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.2 hr) (EReal.coe_ne_top r), ih]

/-- The greatest of finitely many reals, at least one, is a real. -/
theorem fold_max_real {ι : Type*} [Fintype ι] [Nonempty ι] (s : ι → ℝ) :
    ∃ M : ℝ, (Finset.univ.fold max (⊥ : EReal) fun x => (s x : EReal)) = M := by
  refine ⟨(Finset.univ.fold max (⊥ : EReal) fun x => (s x : EReal)).toReal, (EReal.coe_toReal ?_ ?_).symm⟩
  · exact ((Finset.fold_max_lt (c := (⊤ : EReal))).2 ⟨bot_lt_top, fun x _ => EReal.coe_lt_top _⟩).ne
  · obtain ⟨x⟩ := ‹Nonempty ι›
    exact ((Finset.lt_fold_max (c := (⊥ : EReal))).2 (.inr ⟨x, Finset.mem_univ x, EReal.bot_lt_coe _⟩)).ne'

/-- The values weighted with the normalised exponentials of the scores less some real, and the same with one division at the
    end. -/
theorem softmax_shift {ι : Type*} [Fintype ι] [Nonempty ι] (s : ι → ℝ) (M : ℝ) (v : ι → EReal) :
    ∑ x, v x * Ideal.div (Ideal.exp ((s x : EReal) - (M : EReal))) (∑ y, Ideal.exp ((s y : EReal) - (M : EReal)))
      = Ideal.div (∑ x, Ideal.exp (s x : EReal) * v x) (∑ x, Ideal.exp (s x : EReal)) := by
  have hZ : 0 < ∑ y, Real.exp (s y) := Finset.sum_pos (fun y _ => Real.exp_pos _) Finset.univ_nonempty
  have hZM : ∑ y, Real.exp (s y - M) = (∑ y, Real.exp (s y)) * Real.exp (-M) := by
    rw [Finset.sum_mul]
    exact Finset.sum_congr rfl fun y _ => by rw [sub_eq_add_neg, Real.exp_add]
  simp only [← EReal.coe_sub, Ideal.exp_coe, ← coe_sum]
  rw [Ideal.div_coe hZ.ne', sum_mul_coe _ _ (one_div_nonneg.2 hZ.le)]
  refine Finset.sum_congr rfl fun x _ => ?_
  rw [Ideal.div_coe (by rw [hZM]; exact (mul_pos hZ (Real.exp_pos _)).ne'), ← EReal.coe_mul, mul_comm _ (v x), mul_assoc, ← EReal.coe_mul]
  congr 2
  rw [hZM, sub_eq_add_neg, Real.exp_add]
  have := (Real.exp_pos (-M)).ne'
  field_simp

/-- The reference's softmax and the kernel's. -/
theorem softmax_eq {ι : Type*} [Fintype ι] [Nonempty ι] (s : ι → ℝ) (v : ι → EReal) :
    ∑ x, v x * Ideal.div (Ideal.exp ((s x : EReal) - Finset.univ.fold max (⊥ : EReal) fun y => (s y : EReal)))
        (∑ z, Ideal.exp ((s z : EReal) - Finset.univ.fold max (⊥ : EReal) fun y => (s y : EReal)))
      = Ideal.div (∑ x, Ideal.exp (s x : EReal) * v x) (∑ x, Ideal.exp (s x : EReal)) := by
  obtain ⟨M, hM⟩ := fold_max_real s
  rw [hM]
  exact softmax_shift s M v

/-- A score: the queries scaled by an eighth before the product, or the product after it. -/
theorem score_eq {ι : Type*} [Fintype ι] (q k : ι → ℝ) (e : ℝ) :
    ∑ d, (q d : EReal) * (e : EReal) * (k d : EReal) = ((∑ d, q d * k d : ℝ) * e : ℝ) := by
  rw [Finset.sum_mul, coe_sum]
  refine Finset.sum_congr rfl fun d _ => ?_
  rw [← EReal.coe_mul, ← EReal.coe_mul]
  congr 1
  ring

theorem score_eq' {ι : Type*} [Fintype ι] (q k : ι → ℝ) (e : ℝ) :
    (∑ d, (q d : EReal) * (k d : EReal)) * (e : EReal) = ((∑ d, q d * k d : ℝ) * e : ℝ) := by
  rw [EReal.coe_mul, coe_sum]
  simp only [EReal.coe_mul]

/-- The constants: an eighth in both formats, and the infinities. -/
theorem eighth_bf16 : Ideal.ofBits .bf16 15872#16 = (((1 : ℝ) / 8 : ℝ) : EReal) := by
  simp [Ideal.ofBits, Ideal.ieee, -EReal.coe_mul]; norm_num
theorem eighth_f32 : Ideal.ofBits .f32 1040187392#32 = (((1 : ℝ) / 8 : ℝ) : EReal) := by
  simp [Ideal.ofBits, Ideal.ieee, -EReal.coe_mul]; norm_num
theorem negInf_f32 : Ideal.ofBits .f32 4286578688#32 = ⊥ := by simp [Ideal.ofBits, Ideal.ieee]
theorem posInf_f32 : Ideal.ofBits .f32 2139095040#32 = ⊤ := by simp [Ideal.ofBits, Ideal.ieee]

/-- An extended real whose absolute value is below infinity is a real. -/
theorem real_of_abs_lt {x : EReal} (h : Ideal.cmp .olt (max x (-x)) ⊤ = 1#1) : ∃ r : ℝ, x = r := by
  have hlt : max x (-x) < ⊤ := by
    by_contra hn
    exact absurd h (by simp [Ideal.cmp, hn])
  refine ⟨x.toReal, (EReal.coe_toReal ?_ ?_).symm⟩
  · rintro rfl; simp at hlt
  · rintro rfl; simp at hlt

end Cert.Exchange

end
-- ==== Proof.Head.lean ====
/-
# The kernel's output at an index

An element of the output is a quotient: its numerator weights the values of the device's own keys and of the received ones
with the exponentials of their scores, its denominator is the sum of these exponentials (`outV_apply`).
-/
module

public import proofs.«01_k».proof.Proof.Output
public import proofs.«01_k».proof.Proof.Softmax
public import Idealize.ShloMosaic.Lib.Pointwise

@[expose] public section

noncomputable section

namespace Cert.Exchange

open Cert.KernelIdeal Cert.KernelIdeal.Gen

open Idealize.ShloMosaic

/-- Column `d` of the head that column `n` belongs to. -/
def col (n : Fin 1024) (d : Fin 64) : Fin 1024 := ⟨n.val / 64 * 64 + d.val, by have := n.isLt; have := d.isLt; omega⟩

/-- A head at an index, from its parts' elements. -/
theorem head_apply (q k v kr vr : Vec Ideal S1x256x64 .bf16) (i : Fin 256) (d : Fin 64) (Q : Fin 64 → EReal) (K KR : Fin 256 → Fin 64 → EReal)
    (V VR : Fin 256 → EReal) (hq : ∀ e, q (ix3 0 i e) = Q e) (hk : ∀ j e, k (ix3 0 j e) = K j e) (hkr : ∀ j e, kr (ix3 0 j e) = KR j e)
    (hv : ∀ j, v (ix3 0 j d) = V j) (hvr : ∀ j, vr (ix3 0 j d) = VR j) :
    k0_pay28 q k v kr vr (ix3 0 i d)
      = Ideal.div
        (∑ j, Ideal.exp (∑ e, Q e * (((1 : ℝ) / 8 : ℝ) : EReal) * K j e) * V j + ∑ j, Ideal.exp (∑ e, Q e * (((1 : ℝ) / 8 : ℝ) : EReal) * KR j e) * VR j)
        (∑ j, Ideal.exp (∑ e, Q e * (((1 : ℝ) / 8 : ℝ) : EReal) * K j e) + ∑ j, Ideal.exp (∑ e, Q e * (((1 : ℝ) / 8 : ℝ) : EReal) * KR j e)) := by
  pointwise [k0_pay28]
  rw [eighth_bf16]
  simp only [hq, hk, hkr, hv, hvr]

/-- A head's part of a block at an index. -/
theorem cutAt_apply (b : Fin 4) (i₀ : Fin 256) (n : Fin 1024) (f : Vec Ideal S4x256x1024 .bf16) (j : Fin 256) (d : Fin 64) :
    cutAt (headOff (ix3 b i₀ n)) (headOff_inb (ix3 b i₀ n)) f (ix3 0 j d) = f (ix3 b j (col n d)) := by
  unfold cutAt
  congr 1
  funext a
  fin_cases a
  · exact Fin.ext (by show b.val + 1 * 0 = b.val; omega)
  · exact Fin.ext (by show 0 + 1 * j.val = j.val; omega)
  · exact Fin.ext (by show 64 * (n.val / 64) + 1 * d.val = n.val / 64 * 64 + d.val; omega)

theorem headPos_ix (b : Fin 4) (i : Fin 256) (n : Fin 1024) : headPos (ix3 b i n) = ix3 0 i ⟨n.val % 64, Nat.mod_lt _ (by decide)⟩ := by
  funext a
  fin_cases a <;> rfl

theorem col_mod (n : Fin 1024) : col n ⟨n.val % 64, Nat.mod_lt _ (by decide)⟩ = n :=
  Fin.ext (by show n.val / 64 * 64 + n.val % 64 = n.val; omega)

/-- The output at an index. -/
theorem outV_apply (q k v kr vr : Vec Ideal S4x256x1024 .bf16) (b : Fin 4) (i : Fin 256) (n : Fin 1024) :
    outV q k v kr vr (ix3 b i n)
      = Ideal.div
        (∑ j : Fin 256, Ideal.exp (∑ e, q (ix3 b i (col n e)) * (((1 : ℝ) / 8 : ℝ) : EReal) * k (ix3 b j (col n e))) * v (ix3 b j n)
          + ∑ j : Fin 256, Ideal.exp (∑ e, q (ix3 b i (col n e)) * (((1 : ℝ) / 8 : ℝ) : EReal) * kr (ix3 b j (col n e))) * vr (ix3 b j n))
        (∑ j : Fin 256, Ideal.exp (∑ e, q (ix3 b i (col n e)) * (((1 : ℝ) / 8 : ℝ) : EReal) * k (ix3 b j (col n e)))
          + ∑ j : Fin 256, Ideal.exp (∑ e, q (ix3 b i (col n e)) * (((1 : ℝ) / 8 : ℝ) : EReal) * kr (ix3 b j (col n e)))) := by
  unfold outV headAt
  rw [headPos_ix]
  exact head_apply _ _ _ _ _ i _ _ _ _ _ _ (fun e => cutAt_apply b i n q i e) (fun j e => cutAt_apply b i n k j e) (fun j e => cutAt_apply b i n kr j e)
    (fun j => (cutAt_apply b i n v j _).trans (by rw [col_mod])) (fun j => (cutAt_apply b i n vr j _).trans (by rw [col_mod]))

end Cert.Exchange

end
-- ==== Proof.Reference.lean ====
/-
# The reference at an index

The reference's result is a function of the three arrays (`refV`). Where the queries and the keys are real, its element at
batch `b`, row `i` and column `n` is the quotient of the values weighted with the exponentials of the scores by the sum
of these exponentials (`refV_apply`).
-/
module

public import proofs.«01_k».proof.Proof.Gen.ReferenceIdeal.Run
public import proofs.«01_k».proof.Proof.Head

@[expose] public section

noncomputable section

namespace Cert.Exchange

open Cert.ReferenceIdeal Cert.ReferenceIdeal.Gen

open Idealize.ShloMosaic Idealize.SL.Sem

/-- The scores. -/
def scores (q k : FVec Ideal S4x512x1024 .bf16) : FVec Ideal S4x16x512x512 .f32 :=
  mulf (Host.dotGeneral dot_S4x512x16x64_S4x512x16x64_S4x16x512x512_3_3_1_1_02_02 none
    (extf .f32 (shapeCast _ q shapeCasts_S4x512x1024_S4x512x16x64) bitsLt_bf16_f32)
    (extf .f32 (shapeCast _ k shapeCasts_S4x512x1024_S4x512x16x64) bitsLt_bf16_f32))
    (broadcastInDim S4x16x512x512 ![] bcast_S_S4x16x512x512 (constant S_ .f32 0x3E000000#32))

/-- A number for each row, on the whole row. -/
def onRow (f : FVec Ideal S4x16x512 .f32) : FVec Ideal S4x16x512x512 .f32 :=
  broadcastInDim S4x16x512x512 ![0, 1, 2, 3] bcast_S4x16x512x1_S4x16x512x512_0_1_2_3
    (broadcastInDim S4x16x512x1 ![0, 1, 2] bcast_S4x16x512_S4x16x512x1_0_1_2 f)

/-- The scores, each less the greatest of its row. -/
def shifted (S : FVec Ideal S4x16x512x512 .f32) : FVec Ideal S4x16x512x512 .f32 :=
  subf S (onRow (Host.reduce FloatOps.maximumf S (constant S_ .f32 0xFF800000#32) reducesTo_S4x16x512x512_S4x16x512_d3 h_S_))

/-- The weights. -/
def weights (S : FVec Ideal S4x16x512x512 .f32) : FVec Ideal S4x16x512x512 .f32 :=
  Host.divf (Host.exp (shifted S))
    (onRow (Host.reduceAdd (Host.exp (shifted S)) (constant S_ .f32 0x00000000#32) reducesTo_S4x16x512x512_S4x16x512_d3 h_S_))

/-- The reference's result. -/
def refV (q k v : FVec Ideal S4x512x1024 .bf16) : FVec Ideal S4x512x1024 .f32 :=
  shapeCast _ (transpose S4x512x16x64 [0, 3, 1, 2]
    (Host.dotGeneral dot_S4x512x16x64_S4x16x512x512_S4x16x64x512_1_3_3_2_02_01 none
      (extf .f32 (shapeCast _ v shapeCasts_S4x512x1024_S4x512x16x64) bitsLt_bf16_f32) (weights (scores q k)))
    transposes_S4x16x64x512_S4x512x16x64_0_3_1_2) shapeCasts_S4x512x16x64_S4x512x1024

/-- The head of a column. -/
def headOf (n : Fin 1024) : Fin 16 := ⟨n.val / 64, by have := n.isLt; omega⟩

theorem scores_apply (q k : FVec Ideal S4x512x1024 .bf16) (b : Fin 4) (n : Fin 1024) (i j : Fin 512) :
    scores q k (ix4 b (headOf n) i j) = (∑ e, q (ix3 b i (col n e)) * k (ix3 b j (col n e))) * (((1 : ℝ) / 8 : ℝ) : EReal) := by
  pointwise [scores]
  rw [eighth_f32]
  rfl

theorem weights_apply (S : FVec Ideal S4x16x512x512 .f32) (b : Fin 4) (h : Fin 16) (i j : Fin 512) :
    weights S (ix4 b h i j)
      = Ideal.div (Ideal.exp (S (ix4 b h i j) - Finset.univ.fold max (⊥ : EReal) fun x => S (ix4 b h i x)))
        (∑ y, Ideal.exp (S (ix4 b h i y) - Finset.univ.fold max (⊥ : EReal) fun x => S (ix4 b h i x))) := by
  pointwise [weights, shifted, onRow]
  rw [negInf_f32]

theorem refV_mix (q k v : FVec Ideal S4x512x1024 .bf16) (b : Fin 4) (i : Fin 512) (n : Fin 1024) :
    refV q k v (ix3 b i n) = ∑ j, v (ix3 b j n) * weights (scores q k) (ix4 b (headOf n) i j) := by
  pointwise [refV]
  rfl

/-- The reference's result at an index, of real queries and keys. -/
theorem refV_apply (q k v : FVec Ideal S4x512x1024 .bf16) (q' k' : S4x512x1024.Idx → ℝ) (hq : ∀ x, q x = (q' x : EReal)) (hk : ∀ x, k x = (k' x : EReal))
    (b : Fin 4) (i : Fin 512) (n : Fin 1024) :
    refV q k v (ix3 b i n)
      = Ideal.div
        (∑ j : Fin 512, Ideal.exp (∑ e, q (ix3 b i (col n e)) * (((1 : ℝ) / 8 : ℝ) : EReal) * k (ix3 b j (col n e))) * v (ix3 b j n))
        (∑ j : Fin 512, Ideal.exp (∑ e, q (ix3 b i (col n e)) * (((1 : ℝ) / 8 : ℝ) : EReal) * k (ix3 b j (col n e)))) := by
  rw [refV_mix]
  simp only [weights_apply, scores_apply, hq, hk, score_eq, score_eq']
  exact softmax_eq _ _

/-- The reference's run. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20)
        = refV (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Exchange

end
-- ==== Proof.Value.lean ====
/-
# The value claim

Device `c` holds block `c / 2` of each array along the rows. Its own keys and values are that block, those it received are
the other one (`rcvX` comes from devices of the other `x`), so that its numerator and its denominator together run over all 512
keys, and its output is block `c / 2` of the reference's result.
-/
module

public import proofs.«01_k».proof.Proof.Frames
public import proofs.«01_k».proof.Proof.Reference
public import Idealize.ShloMosaic.Lib.Pipeline.ValueKit.Geometry
public import Idealize.ShloMosaic.Lib.Layout

@[expose] public section

noncomputable section

namespace Cert.Exchange

open Cert.KernelIdeal Cert.KernelIdeal.Gen

open Idealize.ShloMosaic Idealize.SL.Sem
open Idealize.ShloMosaic.TcCoe

/-! ## What the run leaves, and what the body reads -/

section Read

variable {F : FTy → Type} [FloatOps F]
variable (m : (ℓ : Loc nD τ sig) → Buf (Elt F) ℓ) (ρ : Dev nD → PrngReg)

/-- Every window is its whole array. -/
theorem qB_eq (c : Dev nD) : qB m ρ c = m ((c : Thread nD τ).loc main_arg0) := by
  funext x
  refine congrArg (m ((c : Thread nD τ).loc main_arg0)) (funext fun a => Fin.ext ?_)
  fin_cases a <;> exact (Nat.zero_add _).trans (Nat.one_mul _)
theorem kB_eq (c : Dev nD) : kvB m ρ false c = m ((c : Thread nD τ).loc main_arg1) := by
  funext x
  refine congrArg (m ((c : Thread nD τ).loc main_arg1)) (funext fun a => Fin.ext ?_)
  fin_cases a <;> exact (Nat.zero_add _).trans (Nat.one_mul _)
theorem vB_eq (c : Dev nD) : kvB m ρ true c = m ((c : Thread nD τ).loc main_arg2) := by
  funext x
  refine congrArg (m ((c : Thread nD τ).loc main_arg2)) (funext fun a => Fin.ext ?_)
  fin_cases a <;> exact (Nat.zero_add _).trans (Nat.one_mul _)

/-- The result array ends holding what the body stored. -/
theorem finalA_out (c : Dev nD) : finalA m ρ c (3 : Fin 4) = outB m ρ c := by
  funext i
  exact (dats m ρ 0 c).arrAt_emb_eq_after_last (3 : Fin 4) t₀ (by decide +kernel) i

end Read

/-! ## Blocks -/

/-- Row `i` of block `p`, in the whole array. -/
def place (p : ℕ) (hp : p < 2) (i : Fin 256) : Fin 512 := ⟨p * 256 + i.val, by have := i.isLt; omega⟩

theorem half_lt (c : Dev nD) : c.val / 2 < 2 := by revert c; decide

/-- Device `c`'s block at an index. -/
theorem blockN_ix {α : Type} (v : (⟨3, ![4, 512, 1024]⟩ : Shape).Idx → α) (c : Dev nD) (b : Fin 4) (i : Fin 256) (n : Fin 1024) :
    (Layout.blockN ⟨3, ![4, 256, 1024]⟩ ⟨3, ![4, 512, 1024]⟩ (Layout.meshBlock [2, 2] ![[], [0], []] c) v : (⟨3, ![4, 256, 1024]⟩ : Shape).Idx → α) (ix3 b i n)
      = v (ix3 b (place (c.val / 2) (half_lt c) i) n) := by
  rw [Layout.blockN_apply]
  congr 1
  funext a
  refine Fin.ext ((Layout.TilesN.idx_val _ _ _ a).trans ?_)
  have h0 : Layout.meshLin [2, 2] c.val [] = 0 := by revert c; decide
  have h1 : Layout.meshLin [2, 2] c.val [0] = c.val / 2 := by revert c; decide
  fin_cases a
  · show Layout.meshLin [2, 2] c.val [] * 4 + b.val = b.val
    rw [h0]; omega
  · show Layout.meshLin [2, 2] c.val [0] * 256 + i.val = c.val / 2 * 256 + i.val
    rw [h1]
  · show Layout.meshLin [2, 2] c.val [] * 1024 + n.val = n.val
    rw [h0]; omega

/-- What a device received is the other block. -/
theorem rcvX_ix (X : Dev nD → Vec Ideal S4x256x1024 .bf16) (W : (⟨3, ![4, 512, 1024]⟩ : Shape).Idx → EReal)
    (hX : ∀ c b i n, X c (ix3 b i n) = W (ix3 b (place (c.val / 2) (half_lt c) i) n)) (c : Dev nD) (b : Fin 4) (i : Fin 256) (n : Fin 1024) :
    rcvX X c (ix3 b i n) = W (ix3 b (place (1 - c.val / 2) (by omega) i) n) := by
  have hp : (partner c).val / 2 = 1 - c.val / 2 := by revert c; decide
  have hpp : (partner (peer c)).val / 2 = 1 - c.val / 2 := by revert c; decide
  unfold rcvX
  split
  · rw [hX]
    congr 2
    exact Fin.ext (by show (partner c).val / 2 * 256 + i.val = _; rw [hp]; rfl)
  · rw [hX]
    congr 2
    exact Fin.ext (by show (partner (peer c)).val / 2 * 256 + i.val = _; rw [hpp]; rfl)

/-- A sum over all rows is the sum over one block's and over the other's. -/
theorem sum_blocks (p : ℕ) (hp : p < 2) (f : Fin 512 → EReal) :
    ∑ j : Fin 256, f (place p hp j) + ∑ j : Fin 256, f (place (1 - p) (by omega) j) = ∑ j : Fin 512, f j := by
  rw [Fin.sum_univ_two_halves 256 256 rfl f]
  have h0 : ∀ j : Fin 256, place 0 (by decide) j = ⟨j.val, by have := j.isLt; omega⟩ := fun j => Fin.ext (by show 0 * 256 + j.val = j.val; omega)
  have h1 : ∀ j : Fin 256, place 1 (by decide) j = ⟨256 + j.val, by have := j.isLt; omega⟩ := fun j => Fin.ext (by show 1 * 256 + j.val = 256 + j.val; omega)
  obtain rfl | rfl : p = 0 ∨ p = 1 := by omega
  · simp only [Nat.sub_zero, h0, h1]
  · simp only [Nat.sub_self, h0, h1]
    exact add_comm _ _

/-! ## The precondition -/

/-- Both comparisons hold at every element. -/
theorem real_of_pre (q k v : Vec Ideal S4x256x1024 .bf16) (h : Cert.Pre_finite_KernelIdeal.fn (F := Ideal) q k v = fun _ => 1#1) (b : Fin 4) (i : Fin 256)
    (n : Fin 1024) : (∃ r : ℝ, q (ix3 b i n) = r) ∧ ∃ r : ℝ, k (ix3 b i n) = r := by
  have hand : ∀ x y : BitVec 1, IntOp.andi x y = 1#1 → x = 1#1 ∧ y = 1#1 := by decide
  have hx : IntOp.andi (Ideal.cmp .olt (max (q (ix3 b i n)) (-q (ix3 b i n))) (Ideal.ofBits .f32 2139095040#32))
      (Ideal.cmp .olt (max (k (ix3 b i n)) (-k (ix3 b i n))) (Ideal.ofBits .f32 2139095040#32)) = 1#1 := congrFun h (ix3 b i n)
  rw [posInf_f32] at hx
  exact ⟨real_of_abs_lt (hand _ _ hx).1, real_of_abs_lt (hand _ _ hx).2⟩

theorem ix3_self (x : (⟨3, ![4, 512, 1024]⟩ : Shape).Idx) : ∃ (b : Fin 4) (i : Fin 512) (n : Fin 1024), x = ix3 b i n :=
  ⟨x 0, x 1, x 2, by funext a; fin_cases a <;> rfl⟩

/-- A whole array is real if every device's block is. -/
theorem real_whole (X : Dev nD → Vec Ideal S4x256x1024 .bf16) (W : (⟨3, ![4, 512, 1024]⟩ : Shape).Idx → EReal)
    (hX : ∀ c b i n, X c (ix3 b i n) = W (ix3 b (place (c.val / 2) (half_lt c) i) n)) (h : ∀ c b i n, ∃ r : ℝ, X c (ix3 b i n) = r)
    (x : (⟨3, ![4, 512, 1024]⟩ : Shape).Idx) : ∃ r : ℝ, W x = r := by
  obtain ⟨b, i, n, rfl⟩ := ix3_self x
  have hi := i.isLt
  have hc : 2 * (i.val / 256) < 4 := by omega
  obtain ⟨r, hr⟩ := h ⟨2 * (i.val / 256), hc⟩ b ⟨i.val % 256, Nat.mod_lt _ (by decide)⟩ n
  refine ⟨r, ?_⟩
  rw [← hr, hX]
  congr 2
  exact Fin.ext (by show i.val = 2 * (i.val / 256) / 2 * 256 + i.val % 256; omega)

/-! ## The claim -/

/-- A device's output is its block of the reference's result. -/
theorem out_block (q k v : Dev nD → Vec Ideal S4x256x1024 .bf16) (Q K V : (⟨3, ![4, 512, 1024]⟩ : Shape).Idx → EReal)
    (hq : ∀ c b i n, q c (ix3 b i n) = Q (ix3 b (place (c.val / 2) (half_lt c) i) n))
    (hk : ∀ c b i n, k c (ix3 b i n) = K (ix3 b (place (c.val / 2) (half_lt c) i) n))
    (hv : ∀ c b i n, v c (ix3 b i n) = V (ix3 b (place (c.val / 2) (half_lt c) i) n))
    (hQ : ∀ x, ∃ r : ℝ, Q x = r) (hK : ∀ x, ∃ r : ℝ, K x = r) (c : Dev nD) :
    outV (q c) (k c) (v c) (rcvX k c) (rcvX v c)
      = Layout.blockN ⟨3, ![4, 256, 1024]⟩ ⟨3, ![4, 512, 1024]⟩ (Layout.meshBlock [2, 2] ![[], [0], []] c) (refV Q K V) := by
  choose q' hq' using hQ
  choose k' hk' using hK
  funext x
  obtain ⟨b, i, n, rfl⟩ : ∃ (b : Fin 4) (i : Fin 256) (n : Fin 1024), x = ix3 b i n := ⟨x 0, x 1, x 2, by funext a; fin_cases a <;> rfl⟩
  rw [outV_apply, blockN_ix, refV_apply Q K V q' k' hq' hk',
    ← sum_blocks (c.val / 2) (half_lt c) fun j => Ideal.exp (∑ e, Q (ix3 b (place (c.val / 2) (half_lt c) i) (col n e)) * (((1 : ℝ) / 8 : ℝ) : EReal) * K (ix3 b j (col n e))) * V (ix3 b j n),
    ← sum_blocks (c.val / 2) (half_lt c) fun j => Ideal.exp (∑ e, Q (ix3 b (place (c.val / 2) (half_lt c) i) (col n e)) * (((1 : ℝ) / 8 : ℝ) : EReal) * K (ix3 b j (col n e)))]
  simp only [hq, hk, hv, rcvX_ix k K hk, rcvX_ix v V hv]

theorem algebraic : Cert.algebraic_KernelIdeal_ReferenceIdeal_pre_finite_KernelIdeal := by
  intro m ρ m' ρ' hpre hagree
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · have hq : ∀ (c : Dev nD) (b : Fin 4) (i : Fin 256) (n : Fin 1024), m ((c : Thread nD τ).loc main_arg0) (ix3 b i n)
        = m' (((0 : Dev Cert.ReferenceIdeal.nD).tc : Thread Cert.ReferenceIdeal.nD Cert.ReferenceIdeal.τ).loc Cert.ReferenceIdeal.main_arg0) (ix3 b (place (c.val / 2) (half_lt c) i) n) :=
      fun c b i n => (congrFun (hagree c).1 (ix3 b i n)).trans (blockN_ix _ c b i n)
    have hk : ∀ (c : Dev nD) (b : Fin 4) (i : Fin 256) (n : Fin 1024), m ((c : Thread nD τ).loc main_arg1) (ix3 b i n)
        = m' (((0 : Dev Cert.ReferenceIdeal.nD).tc : Thread Cert.ReferenceIdeal.nD Cert.ReferenceIdeal.τ).loc Cert.ReferenceIdeal.main_arg1) (ix3 b (place (c.val / 2) (half_lt c) i) n) :=
      fun c b i n => (congrFun (hagree c).2.1 (ix3 b i n)).trans (blockN_ix _ c b i n)
    have hv : ∀ (c : Dev nD) (b : Fin 4) (i : Fin 256) (n : Fin 1024), m ((c : Thread nD τ).loc main_arg2) (ix3 b i n)
        = m' (((0 : Dev Cert.ReferenceIdeal.nD).tc : Thread Cert.ReferenceIdeal.nD Cert.ReferenceIdeal.τ).loc Cert.ReferenceIdeal.main_arg2) (ix3 b (place (c.val / 2) (half_lt c) i) n) :=
      fun c b i n => (congrFun (hagree c).2.2 (ix3 b i n)).trans (blockN_ix _ c b i n)
    refine (θ_run Cert.KernelIdeal.defs _ _).mono (fun _ h c => ⟨((h.1 c (3 : Fin 4)).trans (finalA_out m ρ c)).trans ?_,
      (h.1 c (0 : Fin 4)).trans (finalA_in m ρ c (0 : Fin 4) (by decide)), (h.1 c (1 : Fin 4)).trans (finalA_in m ρ c (1 : Fin 4) (by decide)),
      (h.1 c (2 : Fin 4)).trans (finalA_in m ρ c (2 : Fin 4) (by decide))⟩) (run_main (F := Ideal) m ρ)
    unfold outB
    rw [qB_eq, show kvB m ρ false = fun c : Dev nD => m ((c : Thread nD τ).loc main_arg1) from funext (kB_eq m ρ),
      show kvB m ρ true = fun c : Dev nD => m ((c : Thread nD τ).loc main_arg2) from funext (vB_eq m ρ)]
    exact out_block (fun c : Dev nD => m ((c : Thread nD τ).loc main_arg0)) _ _ _ _ _ hq hk hv
      (real_whole _ _ hq fun c b i n => (real_of_pre _ _ _ (hpre c) b i n).1) (real_whole _ _ hk fun c b i n => (real_of_pre _ _ _ (hpre c) b i n).2) c
  · exact (θ_run Cert.ReferenceIdeal.defs _ _).mono (fun _ h => h 0) (run_reference m' ρ')

end Cert.Exchange

end
-- ==== Proof.lean ====
/-
# The certificate

The claims' proofs: the frames (`Proof/Frames.lean`), `preserves`, which has no rewrite to justify, and the value claim
(`Proof/Value.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, inferInstance, inferInstance,
  Cert.Exchange.frame_kernel, Cert.Exchange.frame_ideal, Cert.Exchange.frame_ideal_pre, Cert.Exchange.frame_reference, Cert.Exchange.frame_reference_pre,
  trivial, Cert.Exchange.algebraic⟩

end Cert.Proof

end
